-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_KernelIdeal [hPre_labels_in_range_KernelIdeal : Cert.Pre_labels_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_ReferenceIdeal [hPre_labels_in_range_ReferenceIdeal : Cert.Pre_labels_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range_KernelIdeal [hKernelIdeal : Cert.KernelIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range_ReferenceIdeal [hReferenceIdeal : Cert.ReferenceIdeal.Facts] [hPre_labels_in_range_ReferenceIdeal : Cert.Pre_labels_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_range_KernelIdeal [hKernelIdeal : Cert.KernelIdeal.Facts] [hReferenceIdeal : Cert.ReferenceIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range_KernelIdeal : Cert.Pre_labels_in_range_KernelIdeal.Facts) (hPre_labels_in_range_ReferenceIdeal : Cert.Pre_labels_in_range_ReferenceIdeal.Facts),
    quiescent_Kernel (hKernel := hKernel)
    ∧ quiescent_KernelIdeal (hKernelIdeal := hKernelIdeal)
    ∧ quiescent_KernelIdeal_pre_labels_in_range_KernelIdeal (hKernelIdeal := hKernelIdeal) (hPre_labels_in_range_KernelIdeal := hPre_labels_in_range_KernelIdeal)
    ∧ quiescent_ReferenceIdeal (hReferenceIdeal := hReferenceIdeal)
    ∧ quiescent_ReferenceIdeal_pre_labels_in_range_ReferenceIdeal (hReferenceIdeal := hReferenceIdeal) (hPre_labels_in_range_ReferenceIdeal := hPre_labels_in_range_ReferenceIdeal)
    ∧ preserves_Kernel_KernelIdeal
    ∧ algebraic_KernelIdeal_ReferenceIdeal_pre_labels_in_range_KernelIdeal (hKernelIdeal := hKernelIdeal) (hReferenceIdeal := hReferenceIdeal) (hPre_labels_in_range_KernelIdeal := hPre_labels_in_range_KernelIdeal)
-- ==== Pre_labels_in_range_KernelIdeal.lean ====
abbrev S512x1024 : Shape := ⟨2, ![512, 1024]⟩
abbrev S1024x8192 : Shape := ⟨2, ![1024, 8192]⟩
abbrev S512x1 : Shape := ⟨2, ![512, 1]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x1024 .bf16) (main_arg1 : FVec F S1024x8192 .bf16) (main_arg2 : IVec S512x1 32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32768#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_labels_in_range_ReferenceIdeal.lean ====
abbrev S512x1024 : Shape := ⟨2, ![512, 1024]⟩
abbrev S1024x32768 : Shape := ⟨2, ![1024, 32768]⟩
abbrev S512x1 : Shape := ⟨2, ![512, 1]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x1024 .bf16) (main_arg1 : FVec F S1024x32768 .bf16) (main_arg2 : IVec S512x1 32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32768#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x1024 : Shape := ⟨2, ![512, 1024]⟩
abbrev S1024x8192 : Shape := ⟨2, ![1024, 8192]⟩
abbrev S512x1 : Shape := ⟨2, ![512, 1]⟩
abbrev S1024x2048 : Shape := ⟨2, ![1024, 2048]⟩
abbrev S4x512x2 : Shape := ⟨3, ![4, 512, 2]⟩
abbrev S4 : Shape := ⟨1, ![4]⟩
abbrev S_ : Shape := ⟨0, ![]⟩
abbrev S512x2048 : Shape := ⟨2, ![512, 2048]⟩
abbrev S512 : Shape := ⟨1, ![512]⟩
abbrev S512x2 : Shape := ⟨2, ![512, 2]⟩
abbrev S1x512x2 : Shape := ⟨3, ![1, 512, 2]⟩
abbrev S1 : Shape := ⟨1, ![1]⟩
abbrev S1x512x1 : Shape := ⟨3, ![1, 512, 1]⟩

abbrev nBuf : Space → Nat
  | .hbm => 4
  | .vmem => 9
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512x1, .i32⟩
  | .hbm, ⟨3, _⟩ => ⟨S512x1, .f32⟩
  | .local _ .vmem, ⟨0, _⟩ => ⟨S512x1024, .bf16⟩
  | .local _ .vmem, ⟨1, _⟩ => ⟨S1024x2048, .bf16⟩
  | .local _ .vmem, ⟨2, _⟩ => ⟨S1024x2048, .bf16⟩
  | .local _ .vmem, ⟨3, _⟩ => ⟨S512x1, .i32⟩
  | .local _ .vmem, ⟨4, _⟩ => ⟨S512x1, .f32⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S4x512x2, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 32
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v45 : BitVec 32 := Scalar.muli v2 c16_i32_19
  let v46 : BitVec 32 := Scalar.addi c0_i32_20 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v47 : BitVec 32 := Scalar.muli v5 c4_i32_21
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v43 : BitVec 32 := Scalar.addi v8 c1_i32_16
  let c4_i32_17 : BitVec 32 := 4#32
  let v44 : BitVec 32 := Scalar.remsi v43 c4_i32_17
  let c1_i32_22 : BitVec 32 := 1#32
  let v49 : BitVec 32 := Scalar.muli v44 c1_i32_22
  let v50 : BitVec 32 := Scalar.addi v48 v49
  v50.toNat
def k0_dev2 (d0 : Dev nD) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v53 : BitVec 32 := Scalar.muli v2 c16_i32_26
  let v54 : BitVec 32 := Scalar.addi c0_i32_27 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v55 : BitVec 32 := Scalar.muli v5 c4_i32_28
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_23 : BitVec 32 := 2#32
  let v51 : BitVec 32 := Scalar.addi v8 c2_i32_23
  let c4_i32_24 : BitVec 32 := 4#32
  let v52 : BitVec 32 := Scalar.remsi v51 c4_i32_24
  let c1_i32_29 : BitVec 32 := 1#32
  let v57 : BitVec 32 := Scalar.muli v52 c1_i32_29
  let v58 : BitVec 32 := Scalar.addi v56 v57
  v58.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v61 : BitVec 32 := Scalar.muli v2 c16_i32_33
  let v62 : BitVec 32 := Scalar.addi c0_i32_34 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v63 : BitVec 32 := Scalar.muli v5 c4_i32_35
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_30 : BitVec 32 := 3#32
  let v59 : BitVec 32 := Scalar.addi v8 c3_i32_30
  let c4_i32_31 : BitVec 32 := 4#32
  let v60 : BitVec 32 := Scalar.remsi v59 c4_i32_31
  let c1_i32_36 : BitVec 32 := 1#32
  let v65 : BitVec 32 := Scalar.muli v60 c1_i32_36
  let v66 : BitVec 32 := Scalar.addi v64 v65
  v66.toNat
def k0_cond4 (i : grid0.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_15 : BitVec 32 := 0#32
  let v42 : BitVec 1 := Scalar.cmpi .ne v41 c0_i32_15
  v42

def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v47 : Index := Scalar.indexCast v8
  let c0_20 : Index := 0#32
  let c0_21 : Index := 0#32
  ![v47.toNat, 0, 0]
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_30 : BitVec 32 := 0#32
  let c0_i32_31 : BitVec 32 := 0#32
  ![v8.toNat, 0, 0]
def k0_dev4 (d0 : Dev nD) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v53 : BitVec 32 := Scalar.muli v2 c16_i32_26
  let v54 : BitVec 32 := Scalar.addi c0_i32_27 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v55 : BitVec 32 := Scalar.muli v5 c4_i32_28
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v51 : BitVec 32 := Scalar.addi v8 c1_i32_22
  let c4_i32_23 : BitVec 32 := 4#32
  let v52 : BitVec 32 := Scalar.remsi v51 c4_i32_23
  let c1_i32_29 : BitVec 32 := 1#32
  let v57 : BitVec 32 := Scalar.muli v52 c1_i32_29
  let v58 : BitVec 32 := Scalar.addi v56 v57
  v58.toNat
def k0_dev5 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v69 : BitVec 32 := Scalar.muli v2 c16_i32_38
  let v70 : BitVec 32 := Scalar.addi c0_i32_39 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v71 : BitVec 32 := Scalar.muli v5 c4_i32_40
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_34 : BitVec 32 := 2#32
  let v67 : BitVec 32 := Scalar.addi v8 c2_i32_34
  let c4_i32_35 : BitVec 32 := 4#32
  let v68 : BitVec 32 := Scalar.remsi v67 c4_i32_35
  let c1_i32_41 : BitVec 32 := 1#32
  let v73 : BitVec 32 := Scalar.muli v68 c1_i32_41
  let v74 : BitVec 32 := Scalar.addi v72 v73
  v74.toNat
def k0_dev6 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v85 : BitVec 32 := Scalar.muli v2 c16_i32_50
  let v86 : BitVec 32 := Scalar.addi c0_i32_51 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v87 : BitVec 32 := Scalar.muli v5 c4_i32_52
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_46 : BitVec 32 := 3#32
  let v83 : BitVec 32 := Scalar.addi v8 c3_i32_46
  let c4_i32_47 : BitVec 32 := 4#32
  let v84 : BitVec 32 := Scalar.remsi v83 c4_i32_47
  let c1_i32_53 : BitVec 32 := 1#32
  let v89 : BitVec 32 := Scalar.muli v84 c1_i32_53
  let v90 : BitVec 32 := Scalar.addi v88 v89
  v90.toNat
def k0_off3 (d0 : Dev nD) (c1_i32_58 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v99 : BitVec 32 := Scalar.addi v8 c1_i32_58
  let c4_i32_59 : BitVec 32 := 4#32
  let v100 : BitVec 32 := Scalar.remsi v99 c4_i32_59
  let c0_i32_66 : BitVec 32 := 0#32
  let c0_i32_67 : BitVec 32 := 0#32
  ![v100.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S512x1024 : Shape := ⟨2, ![512, 1024]⟩
abbrev S1024x32768 : Shape := ⟨2, ![1024, 32768]⟩
abbrev S512x1 : Shape := ⟨2, ![512, 1]⟩
abbrev S512x32768 : Shape := ⟨2, ![512, 32768]⟩
abbrev S_ : Shape := ⟨0, ![]⟩
abbrev S512 : Shape := ⟨1, ![512]⟩
abbrev S512x2 : Shape := ⟨2, ![512, 2]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x32768, .bf16⟩
  | .hbm, ⟨2, _⟩ => ⟨S512x1, .i32⟩
  | .hbm, ⟨3, _⟩ => ⟨S512x1024, .f32⟩
  | .hbm, ⟨4, _⟩ => ⟨S1024x32768, .f32⟩
  | .hbm, ⟨5, _⟩ => ⟨S512x32768, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x32768, .f32⟩
  | .hbm, ⟨10, _⟩ => ⟨S512x32768, .f32⟩
  | .hbm, ⟨11, _⟩ => ⟨S512x32768, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512, .f32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S512x1, .i32⟩
  | .hbm, ⟨36, _⟩ => ⟨S512x2, .i32⟩
  | .hbm, ⟨37, _⟩ => ⟨S512, .f32⟩
  | .hbm, ⟨38, _⟩ => ⟨S512, .f32⟩
  | .hbm, ⟨39, _⟩ => ⟨S512x1, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Mesh.lean ====
/-
The mesh, the exchange buffer's slots and the values a run computes.

The mesh is 2 × 4 × 4 in row-major order, so the devices that share the first two coordinates are four
consecutive ones and a device's place among them is its number modulo four. `peer e c` is the device `e` places
further round that group. Every device keeps a buffer of four slots, one per place; it fills the slot of its own
place and copies it to the three others, so that at the end all four devices of a group hold the same four slots.

Also here: what each device computes, as plain values — its partial sums over the four column chunks, the row it
sends, the exchanged buffer and the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Places in a group of four -/

/-- The device `e` places further round the group of four of device `c`. -/
def peer (e : Fin 4) (c : Dev nD) : Dev nD :=
  ⟨16 * (c.val / 16) + 4 * ((c.val / 4) % 4) + (c.val % 4 + e.val) % 4, by
    have h : c.val < 32 := c.isLt
    show _ < 32
    omega⟩

/-- A device's place in its group. -/
def place (c : Dev nD) : Fin 4 := ⟨c.val % 4, Nat.mod_lt _ (by decide)⟩

/-- The device of `c`'s group at place `k`. -/
def member (c : Dev nD) (k : Fin 4) : Dev nD := peer (k - place c) c

theorem peer_neg (e : Fin 4) (c : Dev nD) : peer (-e) (peer e c) = c := by revert e c; decide +kernel
theorem peer_neg' (e : Fin 4) (c : Dev nD) : peer e (peer (-e) c) = c := by revert e c; decide +kernel
theorem place_peer (e : Fin 4) (c : Dev nD) : place (peer e c) = place c + e := by revert e c; decide +kernel
theorem member_peer (e : Fin 4) (c : Dev nD) (k : Fin 4) : member (peer e c) k = member c k := by revert e c k; decide +kernel
theorem member_place (c : Dev nD) : member c (place c) = c := by revert c; decide +kernel
theorem place_member (c : Dev nD) (k : Fin 4) : place (member c k) = k := by revert c k; decide +kernel
theorem peer_ne (e : Fin 4) (he : e ≠ 0) (c : Dev nD) : peer e c ≠ c := by revert e c; decide +kernel

/-- Going `e` places round, as a permutation of the devices. -/
def turn (e : Fin 4) : Dev nD ≃ Dev nD := ⟨peer e, peer (-e), peer_neg e, peer_neg' e⟩

/-- The addresses the kernel computes are those of the peers. -/
theorem dev1_eq (c : Dev nD) (h : k0_dev1 c < nD) : (⟨k0_dev1 c, h⟩ : Dev nD) = peer 1 c := Fin.ext (k0_dev1_eq c)
theorem dev2_eq (c : Dev nD) (h : k0_dev2 c < nD) : (⟨k0_dev2 c, h⟩ : Dev nD) = peer 2 c := Fin.ext (k0_dev2_eq c)
theorem dev3_eq (c : Dev nD) (h : k0_dev3 c < nD) : (⟨k0_dev3 c, h⟩ : Dev nD) = peer 3 c := Fin.ext (k0_dev3_eq c)
theorem dev4_eq (c : Dev nD) (h : k0_dev4 c < nD) : (⟨k0_dev4 c, h⟩ : Dev nD) = peer 1 c := Fin.ext (k0_dev4_eq c)
theorem dev5_eq (c : Dev nD) (h : k0_dev5 c < nD) : (⟨k0_dev5 c, h⟩ : Dev nD) = peer 2 c := Fin.ext (k0_dev5_eq c)
theorem dev6_eq (c : Dev nD) (h : k0_dev6 c < nD) : (⟨k0_dev6 c, h⟩ : Dev nD) = peer 3 c := Fin.ext (k0_dev6_eq c)

/-! ## The slots of the exchange buffer -/

/-- The exchange buffer. -/
abbrev commM : Memref sig .tc .vmem S4x512x2 .f32 := Memref.whole cc0_scratch3

/-- The elements of slot `k`. -/
def slotSet (k : Fin 4) : Finset S4x512x2.Idx := Finset.univ.filter fun i => (i 0).val = k.val

theorem mem_slotSet {k : Fin 4} {i : S4x512x2.Idx} : i ∈ slotSet k ↔ (i 0).val = k.val := by
  unfold slotSet; rw [Finset.mem_filter]; exact and_iff_right (Finset.mem_univ _)

/-- The slot at given offsets, as the kernel's transfers name it. -/
abbrev slotM (off : Fin 3 → Nat) (inb : ∀ a, off a + S1x512x2.size a ≤ S4x512x2.size a) : Memref sig .tc .vmem S512x2 .f32 :=
  (commM.slice (Rect.unit (s := S4x512x2) off S1x512x2.size inb) (fun _ => rfl)).squeeze S512x2 squeezes_S1x512x2_S512x2

/-- The rectangle of slot `k` has the slot's elements. -/
theorem rect_slot (off : Fin 3 → Nat) (inb : ∀ a, off a + S1x512x2.size a ≤ S4x512x2.size a) (k : Fin 4) (h : off = ![k.val, 0, 0]) :
    (Rect.unit (s := S4x512x2) off S1x512x2.size inb).set = slotSet k := by
  subst h
  ext i
  rw [mem_slotSet]
  refine (LoadRect.mem_set _).trans ⟨fun hi => ?_, fun hi a => ?_⟩
  · obtain ⟨j, hj, he⟩ := hi 0
    have hj' : j < 1 := hj
    have he' : (i 0).val = k.val + 1 * j := he
    omega
  · have h1 : (i 1).val < 512 := (i 1).isLt
    have h2 : (i 2).val < 2 := (i 2).isLt
    fin_cases a
    · exact ⟨0, Nat.one_pos, hi⟩
    · exact ⟨(i 1).val, h1, show (i 1).val = 0 + 1 * (i 1).val by omega⟩
    · exact ⟨(i 2).val, h2, show (i 2).val = 0 + 1 * (i 2).val by omega⟩

theorem slotM_set (off : Fin 3 → Nat) (inb) (k : Fin 4) (h : off = ![k.val, 0, 0]) : (slotM off inb).view.set = slotSet k := by
  refine (View.set_reshape (v := (commM.slice (Rect.unit (s := S4x512x2) off S1x512x2.size inb) (fun _ => rfl)).view) squeezes_S1x512x2_S512x2.numel_eq).trans ?_
  exact (View.set_slice_whole _ _).trans (rect_slot off inb k h)

theorem access_set (off : Fin 3 → Nat) (inb) (k : Fin 4) (h : off = ![k.val, 0, 0]) :
    (commM.access (Rect.unit (s := S4x512x2) off S1x512x2.size inb) : View sig .tc _ _ _).set = slotSet k :=
  (View.set_slice_whole _ _).trans (rect_slot off inb k h)

/-- The slots of different places are disjoint, -/
theorem slot_disjoint (k k' : Fin 4) (h : k ≠ k') : Disjoint (slotSet k) (slotSet k') := by
  rw [Finset.disjoint_left]
  intro i hi hi'
  rw [mem_slotSet] at hi hi'
  exact h (Fin.ext (hi.symm.trans hi'))

/-- and together make up the buffer. -/
theorem slot_cover : Finset.univ.biUnion slotSet = Finset.univ := by
  ext i
  simp only [Finset.mem_biUnion, Finset.mem_univ, true_and, iff_true]
  exact ⟨⟨(i 0).val, (i 0).isLt⟩, mem_slotSet.mpr rfl⟩

theorem off1_slot (c : Dev nD) : k0_off1 c = ![(place c).val, 0, 0] := k0_off1_eq c
theorem off2_slot (c : Dev nD) : k0_off2 c = ![(place c).val, 0, 0] := k0_off2_eq c
theorem off3_slot1 (c : Dev nD) : k0_off3 c 1#32 = ![(place c + 1).val, 0, 0] := by
  rw [show (1#32 : BitVec 32) = BitVec.ofNat 32 (1 + (0 : Fin 3).val) from rfl, k0_off3_eq c 0]; revert c; decide +kernel
theorem off3_slot2 (c : Dev nD) : k0_off3 c 2#32 = ![(place c + 2).val, 0, 0] := by
  rw [show (2#32 : BitVec 32) = BitVec.ofNat 32 (1 + (1 : Fin 3).val) from rfl, k0_off3_eq c 1]; revert c; decide +kernel
theorem off3_slot3 (c : Dev nD) : k0_off3 c 3#32 = ![(place c + 3).val, 0, 0] := by
  rw [show (3#32 : BitVec 32) = BitVec.ofNat 32 (1 + (2 : Fin 3).val) from rfl, k0_off3_eq c 2]; revert c; decide +kernel

/-- What landed in a slot copied from the same slot of a buffer holding `g`: `g`, on the slot. -/
theorem slot_landed (off : Fin 3 → Nat) (inb) (k : Fin 4) (h : off = ![k.val, 0, 0]) (fd g : cc0_scratch3.ty.Contents (Elt F)) :
    ∀ i ∈ slotSet k, (slotM off inb).view.write (Elt F) fd ((slotM off inb).view.read (Elt F) g) Finset.univ i = g i := by
  intro i hi
  have e := View.write_read_eq_piecewise (v := (slotM off inb).view) (Val := Elt F) fd g Finset.univ
  have hs : (slotM off inb).view.setOn Finset.univ = slotSet k := slotM_set off inb k h
  rw [hs] at e
  rw [e]
  exact Finset.piecewise_eq_of_mem _ _ _ hi

/-! ## What the devices compute -/

variable (m : (ℓ : Loc nD τ sig) → Buf (Elt F) ℓ)

/-- The grid point of chunk `n`. -/
def pt (n : Nat) : Fin cfg0.N := ⟨n % 4, by rw [show cfg0.N = 4 from N_0]; exact Nat.mod_lt _ (by decide)⟩

/-- The left operand, as kept from the first point on. -/
def xb (c : Dev nD) : FVec F S512x1024 .bf16 := k0_pay6 (iblk m c 0 t0_0)
/-- Chunk `n` of the device's columns of the right operand. -/
def wb (c : Dev nD) (n : Nat) : Vec F S1024x2048 .bf16 := iblk m c 1 (pt n)
/-- The labels. -/
def lb (c : Dev nD) (n : Nat) : Vec F S512x1 .i32 := iblk m c 2 (pt n)
/-- The sum of exponentials over chunk `n`. -/
def partS (c : Dev nD) (n : Nat) : FVec F S512x1 .f32 := k0_pay16 (wb m c n) (xb m c)
/-- The masked sum of logits over chunk `n`. -/
def partL (c : Dev nD) (n : Nat) : FVec F S512x1 .f32 := k0_pay17 (grid0.coords (pt n)) c (wb m c n) (xb m c) (lb m c n)
/-- The two accumulators after chunk `n`. -/
def sumS (c : Dev nD) : Nat → FVec F S512x1 .f32
  | 0 => k0_pay1 (partS m c 0)
  | n + 1 => k0_pay3 (partS m c (n + 1)) (sumS c n)
def sumL (c : Dev nD) : Nat → FVec F S512x1 .f32
  | 0 => k0_pay2 (partL m c 0)
  | n + 1 => k0_pay4 (partL m c (n + 1)) (sumL c n)
/-- The slot a device sends: its logarithm of the sum, and its masked sum. -/
def row (c : Dev nD) : FVec F S1x512x2 .f32 := k0_pay7 (sumS m c 3) (sumL m c 3)

/-- An index of the buffer, within its slot. -/
def inSlot (i : S4x512x2.Idx) : S1x512x2.Idx := fun a =>
  ⟨if a = 0 then 0 else (i a).val, by
    fin_cases a
    · show (0 : Nat) < 1; decide
    · show (i 1).val < 512; exact (i 1).isLt
    · show (i 2).val < 2; exact (i 2).isLt⟩

/-- The buffer after the exchange: slot `k` is the row of the group's device at place `k`. -/
def commAll (c : Dev nD) : cc0_scratch3.ty.Contents (Elt F) := fun i => row m (member c ⟨(i 0).val, (i 0).isLt⟩) (inSlot i)

/-- All the devices of a group end with the same buffer. -/
theorem commAll_peer (e : Fin 4) (c : Dev nD) : commAll m (peer e c) = commAll m c := by
  funext i; unfold commAll; rw [member_peer]

/-- What a device's store of its row leaves in its own slot. -/
theorem slot_stored (c : Dev nD) (off : Fin 3 → Nat) (inb) (h : off = ![(place c).val, 0, 0]) (f : cc0_scratch3.ty.Contents (Elt F)) :
    ∀ i ∈ slotSet (place c), (commM.access (Rect.unit (s := S4x512x2) off S1x512x2.size inb) : View sig .tc _ _ _).write (Elt F) f (row m c) Finset.univ i
      = commAll m c i := by
  intro i hi
  rw [← access_set off inb (place c) h] at hi
  obtain ⟨j, -, rfl⟩ := Finset.mem_map.mp hi
  rw [View.write_emb_of_mem _ _ (Finset.mem_univ _)]
  subst h
  have hv : ∀ a, (((commM.access (Rect.unit (s := S4x512x2) ![(place c).val, 0, 0] S1x512x2.size inb) : View sig .tc _ _ _).emb j a : Fin _) : Nat)
      = (![(place c).val, 0, 0] : Fin 3 → Nat) a + (j a).val := fun a => ValueKit.view_emb_slice_whole_unit_val cc0_scratch3 _ _ inb j a
  have h0 : (j 0).val = 0 := by have : (j 0).val < 1 := (j 0).isLt; omega
  show row m c j = commAll m c _
  unfold commAll
  have e0 := hv 0
  have e1 := hv 1
  have e2 := hv 2
  have hm : (⟨((commM.access (Rect.unit (s := S4x512x2) ![(place c).val, 0, 0] S1x512x2.size inb) : View sig .tc _ _ _).emb j 0).val, Fin.isLt _⟩ : Fin 4) = place c := by
    apply Fin.ext
    show ((commM.access (Rect.unit (s := S4x512x2) ![(place c).val, 0, 0] S1x512x2.size inb) : View sig .tc _ _ _).emb j 0).val = (place c).val
    rw [e0, h0]; rfl
  have hj : inSlot ((commM.access (Rect.unit (s := S4x512x2) ![(place c).val, 0, 0] S1x512x2.size inb) : View sig .tc _ _ _).emb j) = j := by
    funext a; apply Fin.ext
    fin_cases a
    · exact h0.symm
    · exact e1.trans (Nat.zero_add _)
    · exact e2.trans (Nat.zero_add _)
  rw [hj]
  exact (congrArg (fun d => row m d j) ((congrArg (member c) hm).trans (member_place c))).symm

/-- Column `j` of slot `k` of the exchanged buffer, as the last point loads it. -/
def col (c : Dev nD) (off : Fin 3 → Nat) (inb : ∀ a, off a + S1x512x1.size a ≤ S4x512x2.size a) : Vec F S1x512x1 .f32 :=
  commM.view.readAt (Elt F) (Rect.unit (s := S4x512x2) off S1x512x1.size inb).toLoadRect (commAll m c)

/-- The result. -/
def outAt (c : Dev nD) : FVec F S512x1 .f32 :=
  k0_pay5 (k0_pay10 (col m c ![2, 0, 0] inb_S4x512x2_S1x512x1_2_0_0)) (k0_pay11 (col m c ![3, 0, 0] inb_S4x512x2_S1x512x1_3_0_0))
    (k0_pay12 (col m c ![0, 0, 1] inb_S4x512x2_S1x512x1_0_0_1) (col m c ![1, 0, 1] inb_S4x512x2_S1x512x1_1_0_1)
      (col m c ![2, 0, 1] inb_S4x512x2_S1x512x1_2_0_1) (col m c ![3, 0, 1] inb_S4x512x2_S1x512x1_3_0_1))
    (k0_pay13 (col m c ![0, 0, 0] inb_S4x512x2_S1x512x1_0_0_0) (col m c ![1, 0, 0] inb_S4x512x2_S1x512x1_1_0_0)
      (col m c ![2, 0, 0] inb_S4x512x2_S1x512x1_2_0_0) (col m c ![3, 0, 0] inb_S4x512x2_S1x512x1_3_0_0))
    (k0_pay14 (col m c ![0, 0, 0] inb_S4x512x2_S1x512x1_0_0_0) (col m c ![1, 0, 0] inb_S4x512x2_S1x512x1_1_0_0)
      (col m c ![2, 0, 0] inb_S4x512x2_S1x512x1_2_0_0) (col m c ![3, 0, 0] inb_S4x512x2_S1x512x1_3_0_0))

end Cert.Xent

end
-- ==== Proof.Schedule.lean ====
/-
The protocol of the exchange: which semaphore counts what, and what each landing hands over.

Device `c` with place `z` in its group:
* its BARRIER cell is signalled once by each of its three peers and waited on for three, at the first grid point;
  the signal of the peer `e` places on hands over that peer's slot `z`, which `c` will fill by a copy;
* its SEND cell `e` (`e = 1, 2, 3`) counts the copy of its own slot to the peer `e` places on; the wait hands back the
  share of the own slot the copy read;
* its RECEIVE cell `e` counts the copy that the peer `e` places on makes into slot `z + e` of `c`; the wait hands
  over that slot at the exchanged contents.
The own slot is read by three copies and by the loads at once, so its full share is dealt in four.
A device owes, at launch, one unit to each peer's barrier cell and a slot's credit to one receive cell of each peer.
-/
module

public import proofs.«01_k».proof.Proof.Mesh

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The cells -/

/-- The barrier semaphore; the send and the receive semaphores by number. -/
abbrev barS : Sem sig := (SemArray.scalar (sig.barrier 0 rfl) : Sems sig S_).sem
def sendS (e : Fin 4) : DmaSem sig := ⟨5 + e.val, show 5 + e.val < 13 by omega⟩
def recvS (e : Fin 4) : DmaSem sig := ⟨9 + e.val, show 9 + e.val < 13 by omega⟩

abbrev barCell (c : Dev nD) : GSem nD τ sig := ((c : Thread nD τ), .reg barS)
abbrev sendCell (c : Dev nD) (e : Fin 4) : GSem nD τ sig := ((c : Thread nD τ), .dma (sendS e))
abbrev recvCell (c : Dev nD) (e : Fin 4) : GSem nD τ sig := ((c : Thread nD τ), .dma (recvS e))

/-- The kernel's own scoped semaphores; -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
/-- and those the exchange uses: the barrier, three send and three receive semaphores. -/
abbrev csem : Fin 7 → SemLoc sig := fun
  | 0 => .reg barS | 1 => .dma (sendS 1) | 2 => .dma (sendS 2) | 3 => .dma (sendS 3)
  | 4 => .dma (recvS 1) | 5 => .dma (recvS 2) | 6 => .dma (recvS 3)
abbrev kcell (ck : Dev nD × Fin 7) : GSem nD τ sig := ((ck.1 : Thread nD τ), csem ck.2)

/-- What one slot's copy credits. -/
def N : ℕ := (slotM ![0, 0, 0] (by decide)).view.dmaCredit
theorem N_pos : 0 < N := View.dmaCredit_pos _ (by decide)
theorem credit_eq (off inb) : (slotM off inb).view.dmaCredit = N := rfl

/-! ## The payloads -/

/-- Slot `k` of device `c`'s exchange buffer, at share `q` and contents `f`. -/
def slotPts (c : Dev nD) (k : Fin 4) (q : PosShare TreeShare) (f : Buf (Elt F) ((c : Thread nD τ).loc cc0_scratch3)) : sProp 𝕄 :=
  (c : Thread nD τ).loc cc0_scratch3 ↦[slotSet k]{q} f

/-- The four shares of the own slot: one kept for the loads (`0`), three lent to the copies. -/
def qs (e : Fin 4) : PosShare TreeShare :=
  match e with
  | 0 => fullShare.right.right
  | 1 => fullShare.left.left
  | 2 => fullShare.left.right
  | 3 => fullShare.right.left

def barPay (c : Dev nD) (e : Fin 4) : sProp 𝕄 := iprop(∃ f, slotPts (peer e c) (place c) fullShare f)
def sendPay (c : Dev nD) (e : Fin 4) : sProp 𝕄 := slotPts c (place c) (qs e) (commAll m c)
def recvPay (c : Dev nD) (e : Fin 4) : sProp 𝕄 := slotPts c (place c + e) fullShare (commAll m c)

omit [FloatOps F] in
instance slotPts_storable (c : Dev nD) (k q f) : BI.Storable (upEmb : UEmb _ 𝕄) (slotPts (F := F) c k q f) := by unfold slotPts; infer_instance
omit [FloatOps F] in
instance barPay_storable (c : Dev nD) (e) : BI.Storable (upEmb : UEmb _ 𝕄) (barPay (F := F) c e) := by unfold barPay; infer_instance
instance sendPay_storable (c : Dev nD) (e) : BI.Storable (upEmb : UEmb _ 𝕄) (sendPay (F := F) m c e) := by unfold sendPay; infer_instance
instance recvPay_storable (c : Dev nD) (e) : BI.Storable (upEmb : UEmb _ 𝕄) (recvPay (F := F) m c e) := by unfold recvPay; infer_instance

/-! ## The schedule -/

/-- The duties of a semaphore's round 0: three signals on the barrier, one landing on each used copy semaphore. -/
def dutiesOf (s : SemLoc sig) : Finset (Fin 4) :=
  match s with
  | .reg _ => {1, 2, 3}
  | .dma q => if q.val = 6 ∨ q.val = 7 ∨ q.val = 8 ∨ q.val = 10 ∨ q.val = 11 ∨ q.val = 12 then {0} else ∅

/-- What a landing on a copy semaphore hands over. -/
def xferPay (c : Dev nD) (n : Nat) : sProp 𝕄 :=
  if n < 9 then sendPay m c (Fin.ofNat 4 (n - 5)) else recvPay m c (Fin.ofNat 4 (n - 9))

instance xferPay_storable (c : Dev nD) (n) : BI.Storable (upEmb : UEmb _ 𝕄) (xferPay (F := F) m c n) := by
  unfold xferPay; split <;> infer_instance

def payOf (c : Dev nD) (s : SemLoc sig) (d : Fin 4) : sProp 𝕄 :=
  match s with
  | .reg _ => barPay c d
  | .dma q => xferPay m c q.val

instance payOf_storable (c : Dev nD) (s d) : BI.Storable (upEmb : UEmb _ 𝕄) (payOf (F := F) m c s d) := by
  unfold payOf; split <;> infer_instance

/-- One round on each cell of the exchange. -/
def Rd : Rounds.Schedule (GSem nD τ sig) (Fin 4) 𝕄 where
  duties g r := if r = 0 ∧ g.1.2 = .tc then dutiesOf g.2 else ∅
  unitless _ := False
  amount g _ _ := match g.2 with | .reg _ => 1 | .dma _ => N
  payload g _ d := payOf m g.1.1 g.2 d
  amount_pos g _ _ _ := by
    cases g.2
    · exact Nat.one_pos
    · exact N_pos

instance Rd_payload_storable (g : GSem nD τ sig) (r : ℕ) (d : Fin 4) :
    BI.Storable (upEmb : UEmb _ 𝕄) ((Rd (F := F) m).payload g r d) := by
  show BI.Storable upEmb (payOf m g.1.1 g.2 d); infer_instance

section Sched
variable (c : Dev nD)

theorem duties_bar : (Rd (F := F) m).duties (barCell c) 0 = {1, 2, 3} := by dsimp only [Rd]; exact if_pos ⟨rfl, rfl⟩
theorem duties_send (e : Fin 4) (he : e ≠ 0) : (Rd (F := F) m).duties (sendCell c e) 0 = {0} := by
  dsimp only [Rd]; rw [if_pos ⟨rfl, rfl⟩]; revert e; decide
theorem duties_recv (e : Fin 4) (he : e ≠ 0) : (Rd (F := F) m).duties (recvCell c e) 0 = {0} := by
  dsimp only [Rd]; rw [if_pos ⟨rfl, rfl⟩]; revert e; decide
theorem duties_later (g : GSem nD τ sig) : ∀ r, 1 ≤ r → (Rd (F := F) m).duties g r = ∅ :=
  fun r hr => by dsimp only [Rd]; exact if_neg fun h => by omega

theorem amount_bar (d : Fin 4) : (Rd (F := F) m).amount (barCell c) 0 d = 1 := rfl
theorem amount_send (e d : Fin 4) : (Rd (F := F) m).amount (sendCell c e) 0 d = N := rfl
theorem amount_recv (e d : Fin 4) : (Rd (F := F) m).amount (recvCell c e) 0 d = N := rfl

theorem expect_bar : (Rd (F := F) m).expect (barCell c) 0 = 3 := by
  unfold Schedule.expect Schedule.amountOf
  rw [duties_bar, Finset.sum_congr rfl fun d _ => amount_bar m c d]; rfl
theorem expect_send (e : Fin 4) (he : e ≠ 0) : (Rd (F := F) m).expect (sendCell c e) 0 = N := by
  unfold Schedule.expect Schedule.amountOf; rw [duties_send m c e he, Finset.sum_singleton, amount_send]
theorem expect_recv (e : Fin 4) (he : e ≠ 0) : (Rd (F := F) m).expect (recvCell c e) 0 = N := by
  unfold Schedule.expect Schedule.amountOf; rw [duties_recv m c e he, Finset.sum_singleton, amount_recv]

theorem payload_bar (d : Fin 4) : (Rd (F := F) m).payload (barCell c) 0 d = barPay c d := rfl
theorem payload_send (e d : Fin 4) : (Rd (F := F) m).payload (sendCell c e) 0 d = sendPay m c e := by
  show xferPay m c (5 + e.val) = _
  unfold xferPay
  rw [if_pos (by omega), show Fin.ofNat 4 (5 + e.val - 5) = e from by revert e; decide]
theorem payload_recv (e d : Fin 4) : (Rd (F := F) m).payload (recvCell c e) 0 d = recvPay m c e := by
  show xferPay m c (9 + e.val) = _
  unfold xferPay
  rw [if_neg (by omega), show Fin.ofNat 4 (9 + e.val - 9) = e from by revert e; decide]

/-- What the barrier wait hands over: the three peers' slots. -/
theorem rest_bar : bigSep ((Rd (F := F) m).duties (barCell c) 0 \ ∅) (fun d => (Rd (F := F) m).payload (barCell c) 0 d)
    = iprop(barPay c 1 ∗ barPay c 2 ∗ barPay c 3) := by
  rw [Finset.sdiff_empty, duties_bar, bigSep_eq_bigSepL_of_eq [1, 2, 3] (by decide) (by decide)]; rfl
theorem rest_send (e : Fin 4) (he : e ≠ 0) :
    bigSep ((Rd (F := F) m).duties (sendCell c e) 0 \ ∅) (fun d => (Rd (F := F) m).payload (sendCell c e) 0 d) = sendPay m c e := by
  rw [Finset.sdiff_empty, duties_send m c e he, bigSep_singleton, payload_send]
theorem rest_recv (e : Fin 4) (he : e ≠ 0) :
    bigSep ((Rd (F := F) m).duties (recvCell c e) 0 \ ∅) (fun d => (Rd (F := F) m).payload (recvCell c e) 0 d) = recvPay m c e := by
  rw [Finset.sdiff_empty, duties_recv m c e he, bigSep_singleton, payload_recv]

end Sched

/-! ## What a device owes; the levels -/

/-- What device `c` owes between its barrier wait and its copies: a slot's credit to one receive cell of each peer. -/
def R₁ (c : Dev nD) : CellTallies nD τ sig Unit := tallyAt (recvCell (peer 3 c) 1) () N
def R₂ (c : Dev nD) : CellTallies nD τ sig Unit := R₁ c + tallyAt (recvCell (peer 2 c) 2) () N
def R₃ (c : Dev nD) : CellTallies nD τ sig Unit := R₂ c + tallyAt (recvCell (peer 1 c) 3) () N
/-- And before its signals. -/
def O₁ (c : Dev nD) : CellTallies nD τ sig Unit := R₃ c + tallyAt (barCell (peer 3 c)) () 1
def O₂ (c : Dev nD) : CellTallies nD τ sig Unit := O₁ c + tallyAt (barCell (peer 2 c)) () 1
def O₃ (c : Dev nD) : CellTallies nD τ sig Unit := O₂ c + tallyAt (barCell (peer 1 c)) () 1

def L (g : GSem nD τ sig) : Finset Unit := if g.1.2 = .tc then {()} else ∅
/-- Barrier cells at 1, receive cells at 2, all others at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to TensorCore cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (s : SemLoc sig) (k : ℕ) (h : n < lv ((c : Thread nD τ), s) ()) :
    Above n (tallyAt ((c : Thread nD τ), s) () k) := fun g u hg => by
  rw [tallyAt_apply] at hg
  by_cases h' : g = ((c : Thread nD τ), s) ∧ u = ()
  · rw [h'.1]; exact ⟨rfl, h⟩
  · rw [if_neg h'] at hg; exact absurd hg (Nat.lt_irrefl 0)

theorem above_R₁ (c : Dev nD) : Above 1 (R₁ c) := Above.tally _ _ _ (show 1 < 2 by decide)
theorem above_R₂ (c : Dev nD) : Above 1 (R₂ c) := (above_R₁ c).add (Above.tally _ _ _ (show 1 < 2 by decide))
theorem above_R₃ (c : Dev nD) : Above 1 (R₃ c) := (above_R₂ c).add (Above.tally _ _ _ (show 1 < 2 by decide))
theorem above_mono {n n' : ℕ} (h : n' ≤ n) {O : CellTallies nD τ sig Unit} (hO : Above n O) : Above n' O :=
  fun g u hg => ⟨(hO g u hg).1, lt_of_le_of_lt h (hO g u hg).2⟩
theorem above_O₃ (c : Dev nD) : Above 0 (O₃ c) :=
  (((above_mono (Nat.zero_le 1) (above_R₃ c)).add (Above.tally _ (.reg barS) _ Nat.one_pos)).add (Above.tally _ (.reg barS) _ Nat.one_pos)).add
    (Above.tally _ (.reg barS) _ Nat.one_pos)

/-- A device may wait on a cell of its own at level at most `n` while all it owes lies above. -/
theorem mayWait (c : Dev nD) (s : SemLoc sig) (n : ℕ) (O : CellTallies nD τ sig Unit) (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## What a device carries through the grid -/

/-- Every cell of the exchange under its invariant, and past the start of round 0. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at' (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
omit [FloatOps F] in
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
theorem inv_at (K : Dev nD × Fin 7 → ℕ) (ck : Dev nD × Fin 7) : records m K ⊢ cellInv ER (Rd m) (K ck) (kcell ck) := by
  unfold records
  iintro ⟨#HI, -⟩
  iapply (inv_at' m K ck); iexact HI
theorem reached_at (K : Dev nD × Fin 7 → ℕ) (ck : Dev nD × Fin 7) : records m K ⊢ reached ER (kcell ck) 0 := by
  unfold records
  iintro ⟨-, #HI⟩
  iapply (reached_at' (F := F) ck); iexact HI

/-- The tokens of the signals and of the copies device `c` performs. -/
def barToks (c : Dev nD) : sProp 𝕄 :=
  iprop(dutyTok ER (barCell (peer 1 c)) 0 3 ∗ dutyTok ER (barCell (peer 2 c)) 0 2 ∗ dutyTok ER (barCell (peer 3 c)) 0 1)
def xferToks (c : Dev nD) : sProp 𝕄 :=
  iprop((dutyTok ER (recvCell (peer 1 c) 3) 0 0 ∗ dutyTok ER (recvCell (peer 2 c) 2) 0 0 ∗ dutyTok ER (recvCell (peer 3 c) 1) 0 0)
    ∗ (dutyTok ER (sendCell c 1) 0 0 ∗ dutyTok ER (sendCell c 2) 0 0 ∗ dutyTok ER (sendCell c 3) 0 0))
/-- Device `c`'s positions on its copy cells. -/
def xferPos (c : Dev nD) : sProp 𝕄 :=
  iprop((atPos ER (sendCell c 1) 0 ∅ 0 ∗ atPos ER (sendCell c 2) 0 ∅ 0 ∗ atPos ER (sendCell c 3) 0 ∅ 0)
    ∗ (atPos ER (recvCell c 1) 0 ∅ 0 ∗ atPos ER (recvCell c 2) 0 ∅ 0 ∗ atPos ER (recvCell c 3) 0 ∅ 0))
/-- The credits of the three landings it awaits. -/
def recvCreds (c : Dev nD) : sProp 𝕄 :=
  iprop(cred (tallyAt (recvCell c 1) () N) ∗ cred (tallyAt (recvCell c 2) () N) ∗ cred (tallyAt (recvCell c 3) () N))
/-- The two semaphores of the arrays that no copy uses. -/
def idleSems (c : Dev nD) : sProp 𝕄 := iprop(semVal (sendCell c 0) 0 ∗ semVal (recvCell c 0) 0)

/-- What device `c` owns of the protocol at launch, -/
def linear (c : Dev nD) : sProp 𝕄 := iprop(atPos ER (barCell c) 0 ∅ 0 ∗ xferPos c ∗ barToks c ∗ xferToks c ∗ idleSems c)
def start (c : Dev nD) : sProp 𝕄 :=
  iprop((∃ K, records m K ∗ linear c) ∗ cred (tallyAt (barCell c) () 3) ∗ recvCreds c ∗ levAts L lv)
/-- after the barrier, -/
def mid (c : Dev nD) : sProp 𝕄 :=
  iprop((∃ K, records m K ∗ xferPos c ∗ xferToks c) ∗ recvCreds c ∗ idleSems c ∗ semVal (barCell c) 0 ∗ levAts L lv)
/-- and at the end: every semaphore at zero. -/
def done (c : Dev nD) : sProp 𝕄 :=
  iprop(idleSems c ∗ (semVal (sendCell c 1) 0 ∗ semVal (sendCell c 2) 0 ∗ semVal (sendCell c 3) 0)
    ∗ (semVal (recvCell c 1) 0 ∗ semVal (recvCell c 2) 0 ∗ semVal (recvCell c 3) 0) ∗ semVal (barCell c) 0)

/-- A whole buffer of device `c` at contents `f`. -/
abbrev buf (c : Dev nD) (b : Ref sig .tc) (f : Buf (Elt F) ((c : Thread nD τ).loc b)) : sProp 𝕄 := ((c : Thread nD τ).loc b) ↦{fullShare} f

/-- The four slots in device `c`'s hands between the barrier and its copies: its own and the three it will fill. -/
def slots (c : Dev nD) : sProp 𝕄 :=
  iprop((∃ f, slotPts c (place c) fullShare f) ∗ barPay c 1 ∗ barPay c 2 ∗ barPay c 3)

def Φ₀ (c : Dev nD) : sProp 𝕄 :=
  iprop(start m c ∗ (∃ f, buf c cc0_scratch0 f) ∗ (∃ f, buf c cc0_scratch1 f) ∗ (∃ f, buf c cc0_scratch2 f) ∗ (∃ f, buf c cc0_scratch3 f))
/-- After `n + 1` chunks. -/
def Φ₁ (c : Dev nD) (n : ℕ) : sProp 𝕄 :=
  iprop(mid m c ∗ buf c cc0_scratch0 (xb m c) ∗ buf c cc0_scratch1 (sumS m c n) ∗ buf c cc0_scratch2 (sumL m c n) ∗ slots c)
def Φ₂ (c : Dev nD) : sProp 𝕄 :=
  iprop(done c ∗ (∃ f, buf c cc0_scratch0 f) ∗ (∃ f, buf c cc0_scratch1 f) ∗ (∃ f, buf c cc0_scratch2 f) ∗ (∃ f, buf c cc0_scratch3 f))

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := match t.val with
    | 0 => Φ₀ m c
    | 1 => Φ₁ m c 0
    | 2 => Φ₁ m c 1
    | 3 => Φ₁ m c 2
    | _ => Φ₂ c
  q _ := fullShare
  owed t := match t.val with
    | 0 => O₃ c
    | 1 => R₃ c
    | 2 => R₃ c
    | 3 => R₃ c
    | _ => 0

abbrev 𝒱₀ : Variants := Variants.none

end Cert.Xent

end
-- ==== Proof.Steps.lean ====
/-
One rule per kind of operation of the kernel, at a symbolic device: whole-block loads and stores over what a device owns,
a copy of the own slot to a peer, and the two waits that end a copy, each followed by the closing of its semaphore.
-/
module

public import proofs.«01_k».proof.Proof.Schedule

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole blocks -/

/-- Device `c` owns the block seen through `M`, at contents `X`. -/
abbrev own (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

omit [FloatOps F] in
theorem own_of_buf (c : Dev nD) (b : Ref sig .tc) (X : Buf (Elt F) ((c : Thread nD τ).loc b)) : buf c b X ⊢ own c (Memref.whole b) X := by
  unfold own buf owns; simp only [Memref.view_whole, View.read_whole, View.set_whole]
  iintro H
  iexists X
  isplitr; · ipureintro; rfl
  iexact H

omit [FloatOps F] in
theorem buf_of_own (c : Dev nD) (b : Ref sig .tc) (X : Buf (Elt F) ((c : Thread nD τ).loc b)) : own c (Memref.whole b) X ⊢ buf c b X := by
  unfold own buf owns; simp only [Memref.view_whole, View.read_whole, View.set_whole]
  iintro ⟨%f, %hf, H⟩
  subst hf
  iexact H

omit [FloatOps F] in
theorem hz : (![0, 0] : Fin 2 → Nat) = fun _ => 0 := funext fun a => by fin_cases a <;> rfl

omit [FloatOps F] in
/-- A rectangle at the origin of the full size embeds each index as itself. -/
theorem emb_zero {s : Shape} (off : Fin s.rank → Nat) (ho : off = fun _ => 0) (inb : ∀ a, off a + s.size a ≤ s.size a) (x : s.Idx) :
    (Rect.unit off s.size inb).emb x = x := by
  subst ho
  funext a
  apply Fin.ext
  show 0 + 1 * (x a).val = (x a).val
  omega

omit [FloatOps F] in
theorem set_zero {s : Shape} (off : Fin s.rank → Nat) (ho : off = fun _ => 0) (inb : ∀ a, off a + s.size a ≤ s.size a) {sp : Space} {e : EltTy}
    (M : Memref sig .tc sp s e) : M.view.setOn (Rect.unit off s.size inb).toLoadRect.set ⊆ M.view.set := by
  intro i hi
  obtain ⟨x, -, rfl⟩ := Finset.mem_map.mp hi
  exact View.emb_mem_set M.view x

/-- A load of the whole of an owned block reads its contents. -/
theorem step_load (c : Dev nD) {sp : CoreSpace} {s : Shape} {e : EltTy} (M : Memref sig .tc sp s e) (off : Fin s.rank → Nat) (ho : off = fun _ => 0)
    (inb : ∀ a, off a + s.size a ≤ s.size a) (X : s.Idx → Elt F e) {hl : M.view.LoadsAt (Rect.unit off s.size inb).toLoadRect}
    {α : Type} {Q : α → sProp 𝕄} {k : (s.Idx → Elt F e) → Prog (TpuEff nD τ sig (Elt F) Λ₀ .tc) α} :
    own c M X ⊢ iprop((own c M X -∗ wp frame (wpE (defs₀ (F := F)) 𝒱₀ (c : Thread nD τ) none) Set.univ (k X) Q)
      -∗ wp frame (wpE (defs₀ (F := F)) 𝒱₀ (c : Thread nD τ) none) Set.univ (.op (.load M (Rect.unit off s.size inb).toLoadRect hl) k) Q) := by
  unfold own owns
  iintro ⟨%f, %hf, H⟩ Hk
  iapply (wp_load 𝒱₀ (c : Thread nD τ) none Set.univ (m := M) (set_zero off ho inb M)) $$ H
  iintro H
  rw [show M.view.readAt (Elt F) (Rect.unit off s.size inb).toLoadRect f = X from by
    funext x
    exact (congrArg (M.view.read (Elt F) f) (emb_zero off ho inb x)).trans (congrFun hf x)]
  iapply Hk
  iexists f
  isplitr; · ipureintro; exact hf
  iexact H

/-- A store of the whole of an owned block leaves it at what was stored. -/
theorem step_store (c : Dev nD) {sp : CoreSpace} {s : Shape} {e : EltTy} (M : Memref sig .tc sp s e) (off : Fin s.rank → Nat) (ho : off = fun _ => 0)
    (inb : ∀ a, off a + s.size a ≤ s.size a) (X w : s.Idx → Elt F e) {hx : (M.access (Rect.unit off s.size inb)).Stores Finset.univ}
    {hm : (Finset.univ : Finset (Rect.unit off s.size inb).shape.Idx) = Finset.univ ∨ ∀ a, (Rect.unit off s.size inb).stride a = 1}
    {α : Type} {Q : α → sProp 𝕄} {k : PUnit → Prog (TpuEff nD τ sig (Elt F) Λ₀ .tc) α} :
    own c M X ⊢ iprop((own c M w -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit off s.size inb) w Finset.univ hx hm) k) Q) := by
  unfold own owns
  iintro ⟨%f, %hf, H⟩ Hk
  have hS : (M.access (Rect.unit off s.size inb)).setOn Finset.univ ⊆ M.view.set := by
    intro i hi
    obtain ⟨x, -, rfl⟩ := Finset.mem_map.mp hi
    exact View.emb_mem_set M.view _
  iapply (wp_store 𝒱₀ (c : Thread nD τ) none Set.univ (m := M) (r := Rect.unit off s.size inb) (Mk := Finset.univ) hS) $$ H
  iintro H
  iapply Hk
  iexists ((M.access (Rect.unit off s.size inb)).write (Elt F) f w Finset.univ)
  isplitr
  · ipureintro
    funext x
    refine (congrArg (M.view.read (Elt F) _) (emb_zero off ho inb x).symm).trans ?_
    exact View.read_slice_write_emb (v := M.view) (Rect.unit off s.size inb) f w (Finset.mem_univ x)
  iexact H

/-! ## The copies -/

variable (K : Dev nD × Fin 7 → ℕ)

/-- The number of send and of receive semaphore `e` among the exchange's. -/
def sIx (e : Fin 4) : Fin 7 := ⟨e.val, by omega⟩
def rIx (e : Fin 4) : Fin 7 := ⟨3 + e.val, by omega⟩

theorem kcell_send (c : Dev nD) (e : Fin 4) (he : e ≠ 0) : kcell (c, sIx e) = sendCell c e := by revert he; fin_cases e <;> intro he <;> first | exact absurd rfl he | rfl
theorem kcell_recv (c : Dev nD) (e : Fin 4) (he : e ≠ 0) : kcell (c, rIx e) = recvCell c e := by revert he; fin_cases e <;> intro he <;> first | exact absurd rfl he | rfl

theorem inv_send (c : Dev nD) (e : Fin 4) (he : e ≠ 0) : records m K ⊢ cellInv ER (Rd m) (K (c, sIx e)) (sendCell c e) := by
  rw [← kcell_send c e he]; exact inv_at m K (c, sIx e)
theorem inv_recv (c : Dev nD) (e : Fin 4) (he : e ≠ 0) : records m K ⊢ cellInv ER (Rd m) (K (c, rIx e)) (recvCell c e) := by
  rw [← kcell_recv c e he]; exact inv_at m K (c, rIx e)
theorem reached_send (c : Dev nD) (e : Fin 4) (he : e ≠ 0) : records m K ⊢ reached ER (sendCell c e) 0 := by
  rw [← kcell_send c e he]; exact reached_at m K (c, sIx e)
theorem reached_recv (c : Dev nD) (e : Fin 4) (he : e ≠ 0) : records m K ⊢ reached ER (recvCell c e) 0 := by
  rw [← kcell_recv c e he]; exact reached_at m K (c, rIx e)

omit [FloatOps F] in
theorem neg_ne (e : Fin 4) (he : e ≠ 0) : -e ≠ 0 := by revert e; decide
theorem add_neg_place (k e : Fin 4) : k + e + -e = k := by revert k e; decide

/-- What lands in the peer's slot is the exchanged contents of that slot. -/
theorem landing (c : Dev nD) (e : Fin 4) (off : Fin 3 → Nat) (inb) (ho : off = ![(place c).val, 0, 0]) (fd : cc0_scratch3.ty.Contents (Elt F)) :
    (((peer e c : Thread nD τ).loc cc0_scratch3 ↦[slotSet (place c)]{fullShare}
        ((slotM off inb).view.write (Elt F) fd ((slotM off inb).view.read (Elt F) (commAll m c)) Finset.univ)) : sProp 𝕄)
      ⊢ recvPay m (peer e c) (-e) := by
  unfold recvPay slotPts
  rw [place_peer, add_neg_place, commAll_peer,
    pointsTo_congr (slot_landed off inb (place c) ho fd (commAll m c))]

omit [FloatOps F] in
theorem slotPts_raw (c d : Dev nD) (k : Fin 4) (off : Fin 3 → Nat) (inb) (ho : off = ![k.val, 0, 0]) (q : PosShare TreeShare)
    (f : cc0_scratch3.ty.Contents (Elt F)) :
    (slotPts d k q f : sProp 𝕄) = ((slotM off inb).view.loc (d : Thread nD τ) ↦[(slotM off inb).view.set]{q} f) := by
  unfold slotPts; rw [slotM_set off inb k ho]

/-- The copy, over the points-to of the slot as the transfer names it. -/
theorem send_raw (c : Dev nD) (e : Fin 4) (he : e ≠ 0) (hne : -e ≠ 0) (off : Fin 3 → Nat) (inb) (ho : off = ![(place c).val, 0, 0])
    {hsc : (slotM off inb : Memref sig (Dev.tc (peer e c) : Thread nD τ).2.kind .vmem S512x2 .f32).view.ref.isScScratch = false}
    {hsrc : (slotM off inb).view.WordExact} {hdst : (slotM off inb).view.WordExact}
    {hsem : DmaTarget.Typed .vmem (.dma (recvS (-e))) (.remote (Dev.tc (peer e c) : Thread nD τ) (slotM off inb) (.dma (sendS e)) hsc)}
    {α : Type} {Q : α → sProp 𝕄} {k : PUnit → Prog (TpuEff nD τ sig (Elt F) Λ₀ .tc) α}
    (fn : cc0_scratch3.ty.Contents (Elt F)) (O : CellTallies nD τ sig Unit) (W : Waits sig Unit) :
    iprop(cellInv ER (Rd m) (K (c, sIx e)) (sendCell c e) ∗ cellInv ER (Rd m) (K (peer e c, rIx (-e))) (recvCell (peer e c) (-e))
        ∗ ((slotM off inb).view.loc (c : Thread nD τ) ↦[(slotM off inb).view.set]{qs e} (commAll m c))
        ∗ ((slotM off inb).view.loc (peer e c : Thread nD τ) ↦[(slotM off inb).view.set]{fullShare} fn)
        ∗ owes (c : Thread nD τ) (O + tallyAt (recvCell (peer e c) (-e)) () N) W
        ∗ dutyTok ER (sendCell c e) 0 0 ∗ reached ER (sendCell c e) 0
        ∗ dutyTok ER (recvCell (peer e c) (-e)) 0 0 ∗ reached ER (recvCell (peer e c) (-e)) 0)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc (peer e c) : Thread nD τ) (slotM off inb) (.dma (sendS e)) hsc) (.dma (recvS (-e))) hsrc hdst hsem) k) Q) :=
by
  have h₁ : ((slotM off inb).view.loc (c : Thread nD τ) ↦[(slotM off inb).view.set]{qs e} (commAll m c) : sProp 𝕄) ⊢ (Rd (F := F) m).payload (sendCell c e) 0 0 := by
    rw [payload_send]; unfold sendPay slotPts; rw [slotM_set off inb (place c) ho]
  have h₂ : ((slotM off inb).view.loc (peer e c : Thread nD τ) ↦[(slotM off inb).view.set]{fullShare}
        ((slotM off inb).view.write (Elt F) fn ((slotM off inb).view.read (Elt F) (commAll m c)) Finset.univ) : sProp 𝕄) ⊢ (Rd (F := F) m).payload (recvCell (peer e c) (-e)) 0 0 := by
    rw [payload_recv]; refine Entails.trans (Entails.of_eq ?_) (landing m c e off inb ho fn); rw [slotM_set off inb (place c) ho]
  have d₁ : (0 : Fin 4) ∈ (Rd (F := F) m).duties (sendCell c e) 0 := by rw [duties_send m c e he]; exact Finset.mem_singleton_self _
  have d₂ : (0 : Fin 4) ∈ (Rd (F := F) m).duties (recvCell (peer e c) (-e)) 0 := by rw [duties_recv m _ _ hne]; exact Finset.mem_singleton_self _
  have hN : (slotM off inb).view.amount (.dma (recvS (-e)) : SemLoc sig) = N := credit_eq off inb
  have hr : τ.routes (c : Thread nD τ) (Dev.tc (peer e c) : Thread nD τ) = true := by routes
  exact Rounds.wp_send_pointsTo 𝒱₀ ER (Rd m) (c : Thread nD τ) none (κ₁ := K (c, sIx e)) (κ₂ := K (peer e c, rIx (-e)))
    (r₁ := 0) (r₂ := 0) (d₁ := 0) (d₂ := 0) (fd := fn) d₁ d₂
    () () N hN (amount_send m c e 0) (amount_recv m (peer e c) (-e) 0) O rfl (W := W) h₁ h₂ hr

/-- The copy of the own slot to the peer `e` places on: it takes that peer's slot and a share of the own one, and both
    come back at the ends of the copy. -/
theorem step_send (c n : Dev nD) (e e' : Fin 4) (hn : n = peer e c) (he : e ≠ 0) (he' : e' = -e) (off : Fin 3 → Nat) (inb)
    (ho : off = ![(place c).val, 0, 0]) (sS sR : DmaSem sig) (hS : sS = sendS e) (hR : sR = recvS e')
    {hsc : (slotM off inb : Memref sig (Dev.tc n : Thread nD τ).2.kind .vmem S512x2 .f32).view.ref.isScScratch = false}
    {hsrc : (slotM off inb).view.WordExact} {hdst : (slotM off inb).view.WordExact}
    {hsem : DmaTarget.Typed .vmem (.dma sR) (.remote (Dev.tc n : Thread nD τ) (slotM off inb) (.dma sS) hsc)}
    {α : Type} {Q : α → sProp 𝕄} {k : PUnit → Prog (TpuEff nD τ sig (Elt F) Λ₀ .tc) α}
    (fn : cc0_scratch3.ty.Contents (Elt F)) (O : CellTallies nD τ sig Unit) (W : Waits sig Unit) :
    iprop(records m K ∗ slotPts c (place c) (qs e) (commAll m c) ∗ slotPts (peer e c) (place c) fullShare fn
        ∗ owes (c : Thread nD τ) (O + tallyAt (recvCell (peer e c) e') () N) W
        ∗ dutyTok ER (sendCell c e) 0 0 ∗ dutyTok ER (recvCell (peer e c) e') 0 0)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc n : Thread nD τ) (slotM off inb) (.dma sS) hsc) (.dma sR) hsrc hdst hsem) k) Q) := by
  subst hn hS hR he'
  have hne : -e ≠ 0 := neg_ne e he
  iintro ⟨#HR, Hsrc, Hdst, HO, Ht1, Ht2⟩
  ihave #HI1 := (inv_send m K c e he) $$ HR
  ihave #HI2 := (inv_recv m K (peer e c) (-e) hne) $$ HR
  ihave #Hr1 := (reached_send m K c e he) $$ HR
  ihave #Hr2 := (reached_recv m K (peer e c) (-e) hne) $$ HR
  ihave Hsrc := (Entails.of_eq (slotPts_raw c c (place c) off inb ho (qs e) (commAll m c))) $$ Hsrc
  ihave Hdst := (Entails.of_eq (slotPts_raw c (peer e c) (place c) off inb ho fullShare fn)) $$ Hdst
  iapply (send_raw m K c e he hne off inb ho fn O W) $$ [Hsrc Hdst HO Ht1 Ht2]
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-- The wait for the landing from the peer `e` places on: the slot at the exchanged contents, and the semaphore closed. -/
theorem step_recv (c : Dev nD) (e : Fin 4) (he : e ≠ 0) (s : DmaSem sig) (hs : s = recvS e) (off : Fin 3 → Nat) (inb)
    {h1 : (slotM off inb).view.WordExact} {h2 : (slotM off inb).view.WordExact}
    {α : Type} {Q : α → sProp 𝕄} {k : PUnit → Prog (TpuEff nD τ sig (Elt F) Λ₀ .tc) α} (W : Waits sig Unit) :
    iprop(records m K ∗ cred (tallyAt (recvCell c e) () N) ∗ owes (c : Thread nD τ) 0 W ∗ atPos ER (recvCell c e) 0 ∅ 0)
      ⊢ iprop(((semVal (recvCell c e) 0 ∗ owes (c : Thread nD τ) 0 (insert (SemLoc.dma (recvS e), ()) W) ∗ recvPay m c e)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s (slotM off inb) (slotM off inb) h1 h2) k) Q) := by
  subst hs
  iintro ⟨#HR, Hc, HO, Hat⟩ Hk
  ihave #HI := (inv_recv m K c e he) $$ HR
  iapply (Rounds.wp_wait_rest_token 𝒱₀ ER (Rd m) (c : Thread nD τ) none (κ := K (c, rIx e))
      (wpE_waitDma2_eq 𝒱₀ (c : Thread nD τ) none Set.univ) (Set.mem_univ _) () (O := 0) (W := W) (R := 0) (m := 0) (T := ∅)
      (by rw [Nat.zero_add, expect_recv m c e he]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_recv m c e he)) $$ Hpay
  imod (Rounds.cell_close ER (Rd m) (Set.mem_univ (K (c, rIx e))) (fun h => h) (R := 0 + 1) (duties_later m (recvCell c e))) $$ [Hat] with Hz
  · isplitr; · iexact HI
    iexact Hat
  iapply Hk
  isplitl [Hz]; · iexact Hz
  isplitl [HO]; · iexact HO
  iexact Hpay

/-- The wait for the own slot to have been read by the copy to the peer `e` places on: the lent share back. -/
theorem step_sent (c : Dev nD) (e : Fin 4) (he : e ≠ 0) (s : DmaSem sig) (hs : s = sendS e) (off : Fin 3 → Nat) (inb)
    {h1 : (slotM off inb).view.WordExact} {h2 : (slotM off inb).view.WordExact}
    {α : Type} {Q : α → sProp 𝕄} {k : PUnit → Prog (TpuEff nD τ sig (Elt F) Λ₀ .tc) α} (W : Waits sig Unit) :
    iprop(records m K ∗ cred (tallyAt (sendCell c e) () N) ∗ owes (c : Thread nD τ) 0 W ∗ atPos ER (sendCell c e) 0 ∅ 0)
      ⊢ iprop(((semVal (sendCell c e) 0 ∗ owes (c : Thread nD τ) 0 (insert (SemLoc.dma (sendS e), ()) W) ∗ sendPay m c e)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s (slotM off inb) (slotM off inb) h1 h2) k) Q) := by
  subst hs
  iintro ⟨#HR, Hc, HO, Hat⟩ Hk
  ihave #HI := (inv_send m K c e he) $$ HR
  iapply (Rounds.wp_wait_rest_token 𝒱₀ ER (Rd m) (c : Thread nD τ) none (κ := K (c, sIx e))
      (wpE_waitDma2_eq 𝒱₀ (c : Thread nD τ) none Set.univ) (Set.mem_univ _) () (O := 0) (W := W) (R := 0) (m := 0) (T := ∅)
      (by rw [Nat.zero_add, expect_send m c e he]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_send m c e he)) $$ Hpay
  imod (Rounds.cell_close ER (Rd m) (Set.mem_univ (K (c, sIx e))) (fun h => h) (R := 0 + 1) (duties_later m (sendCell c e))) $$ [Hat] with Hz
  · isplitr; · iexact HI
    iexact Hat
  iapply Hk
  isplitl [Hz]; · iexact Hz
  isplitl [HO]; · iexact HO
  iexact Hpay

end Cert.Xent

end
-- ==== Proof.Slots.lean ====
/-
The exchange buffer as its four slots, counted from the device's own, and the own slot's full share as four.
-/
module

public import proofs.«01_k».proof.Proof.Steps
public import Idealize.ShloMosaic.Lib.Ring

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem zero_turn (p : Fin 4) : p + 0 = p := by revert p; decide

/-- Going `p` slots round, as a permutation of the slots. -/
def shift (p : Fin 4) : Fin 4 ≃ Fin 4 := ⟨fun k => p + k, fun k => k - p, by revert p; decide, by revert p; decide⟩

omit [FloatOps F] in
/-- The whole buffer is its four slots. -/
theorem comm_slots (c : Dev nD) (q : PosShare TreeShare) (f : Buf (Elt F) ((c : Thread nD τ).loc cc0_scratch3)) :
    (((c : Thread nD τ).loc cc0_scratch3 ↦{q} f) : sProp 𝕄)
      = iprop(slotPts c (place c) q f ∗ slotPts c (place c + 1) q f ∗ slotPts c (place c + 2) q f ∗ slotPts c (place c + 3) q f) := by
  have h : (((c : Thread nD τ).loc cc0_scratch3 ↦{q} f) : sProp 𝕄) = bigSep Finset.univ fun k : Fin 4 => slotPts c k q f :=
    Ring.pointsTo_blocks (B := Fin 4) (ℓ := (c : Thread nD τ).loc cc0_scratch3) (fun k => slotSet k) (fun k k' h => slot_disjoint k k' h)
      (by
        apply Finset.eq_univ_of_forall
        intro i
        rw [Finset.mem_biUnion]
        exact ⟨⟨(i 0).val, (i 0).isLt⟩, Finset.mem_univ _, mem_slotSet.mpr rfl⟩) f
  rw [h, bigSep_univ_equiv (shift (place c)) (fun k : Fin 4 => (slotPts c k q f : sProp 𝕄)),
    bigSep_eq_bigSepL_of_eq [0, 1, 2, 3] (by decide) (by decide)]
  show iprop(slotPts c (place c + 0) q f ∗ slotPts c (place c + 1) q f ∗ slotPts c (place c + 2) q f ∗ slotPts c (place c + 3) q f) = _
  rw [show place c + 0 = place c from zero_turn (place c)]

omit [FloatOps F] in
/-- A slot's full share is the four shares. -/
theorem slot_shares (c : Dev nD) (k : Fin 4) (f : Buf (Elt F) ((c : Thread nD τ).loc cc0_scratch3)) :
    (slotPts c k fullShare f : sProp 𝕄) ⊣⊢ iprop((slotPts c k (qs 1) f ∗ slotPts c k (qs 2) f) ∗ (slotPts c k (qs 3) f ∗ slotPts c k (qs 0) f)) := by
  unfold slotPts
  have a := pointsTo_share (Ix := Unit) (Name := ℕ) (U := UU) (Lvl := ℕ) (ℓ := (c : Thread nD τ).loc cc0_scratch3) (I := slotSet k) (f := f) (PosShare.mem_left_op_right fullShare)
  have l := pointsTo_share (Ix := Unit) (Name := ℕ) (U := UU) (Lvl := ℕ) (ℓ := (c : Thread nD τ).loc cc0_scratch3) (I := slotSet k) (f := f) (PosShare.mem_left_op_right fullShare.left)
  have r := pointsTo_share (Ix := Unit) (Name := ℕ) (U := UU) (Lvl := ℕ) (ℓ := (c : Thread nD τ).loc cc0_scratch3) (I := slotSet k) (f := f) (PosShare.mem_left_op_right fullShare.right)
  exact ⟨a.1.trans (BIClass.sep_mono l.1 r.1), (BIClass.sep_mono l.2 r.2).trans a.2⟩

omit [FloatOps F] in
theorem slot_split (c : Dev nD) (k : Fin 4) (f : Buf (Elt F) ((c : Thread nD τ).loc cc0_scratch3)) :
    (slotPts c k fullShare f : sProp 𝕄) ⊢ iprop(slotPts c k (qs 0) f ∗ slotPts c k (qs 1) f ∗ slotPts c k (qs 2) f ∗ slotPts c k (qs 3) f) := by
  iintro H
  ihave H := (slot_shares c k f).1 $$ H
  icases H with ⟨⟨H1, H2⟩, H3, H0⟩
  isplitl [H0]; · iexact H0
  isplitl [H1]; · iexact H1
  isplitl [H2]; · iexact H2
  iexact H3

omit [FloatOps F] in
theorem slot_merge (c : Dev nD) (k : Fin 4) (f : Buf (Elt F) ((c : Thread nD τ).loc cc0_scratch3)) :
    (iprop(slotPts c k (qs 0) f ∗ slotPts c k (qs 1) f ∗ slotPts c k (qs 2) f ∗ slotPts c k (qs 3) f) : sProp 𝕄) ⊢ slotPts c k fullShare f := by
  iintro ⟨H0, H1, H2, H3⟩
  iapply (slot_shares c k f).2
  isplitl [H1 H2]
  · isplitl [H1]; · iexact H1
    iexact H2
  isplitl [H3]; · iexact H3
  iexact H0

end Cert.Xent

end
-- ==== Proof.Body0.lean ====
/-
The first grid point: the barrier, the copy of the left operand into its scratch buffer, and the first chunk's two sums.
-/
module

public import proofs.«01_k».proof.Proof.Slots

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

omit [FloatOps F] in
theorem at0_first : Scalar.cmpi .ne (Scalar.extui (Scalar.cmpi .eq (BitVec.ofNat 32 ((grid0.coords t0_0) 0).val) 0#32) : BitVec 32) 0#32 = 1#1 := by decide
omit [FloatOps F] in
theorem at0_later : ¬ Scalar.cmpi .ne (Scalar.extui (Scalar.cmpi .sgt (BitVec.ofNat 32 ((grid0.coords t0_0) 0).val) 0#32) : BitVec 32) 0#32 = 1#1 := by decide
omit [FloatOps F] in
theorem at0_cond1 : k0_cond1 (grid0.coords t0_0) = 1#1 := by decide
omit [FloatOps F] in
theorem at0_cond4 : ¬ k0_cond4 (grid0.coords t0_0) = 1#1 := by decide

theorem bar_pay (c : Dev nD) (e e' : Fin 4) (he : e' = -e) (f : Buf (Elt F) ((c : Thread nD τ).loc cc0_scratch3)) :
    (slotPts c (place c + e) fullShare f : sProp 𝕄) ⊢ (Rd (F := F) m).payload (barCell (peer e c)) 0 e' := by
  subst he
  rw [payload_bar]
  unfold barPay
  rw [peer_neg, place_peer]
  iintro H
  iexists f
  iexact H

set_option maxHeartbeats 1600000 in
/-- The body at the first grid point. -/
theorem body0 (c : Dev nD) (M1 : Memref sig .tc .vmem S512x1024 .bf16) (h1 : M1.IsWhole) (M2 : Memref sig .tc .vmem S1024x2048 .bf16) (h2 : M2.IsWhole)
    (M3 : Memref sig .tc .vmem S512x1 .i32) (h3 : M3.IsWhole) (M4 : Memref sig .tc .vmem S512x1 .f32) (h4 : M4.IsWhole) (W : Waits sig Unit) (Kt : PUnit → sProp 𝕄) :
    iprop((Φ₀ m c ∗ owes (c : Thread nD τ) (O₃ c) W ∗ own c M1 (iblk m c 0 t0_0) ∗ own c M2 (wb m c 0) ∗ own c M3 (lb m c 0))
        ∗ ((Φ₁ m c 0 ∗ (∃ W', owes (c : Thread nD τ) (R₃ c) W') ∗ own c M1 (iblk m c 0 t0_0) ∗ own c M2 (wb m c 0) ∗ own c M3 (lb m c 0)) -∗ Kt ⟨⟩))
      ⊢ wp frame (wpE (defs₀ (F := F)) 𝒱₀ c none) Set.univ
          (cc0_body (grid0.coords t0_0) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  simp only [cc0_body_eq_skeleton]; unfold cc0_body_skel
  simp only [k0_part6_eq_skeleton]; unfold k0_part6_skel
  simp only [dif_pos at0_cond1, k0_part1_eq_skeleton]; unfold k0_part1_skel
  simp only [semSignalWord, semWaitWord, Prog.lift, Prog.bind_op, Prog.bind_ret, Prog.pure_eq_ret, wp_deviceId, dif_pos at0_first, dif_neg at0_later, dif_neg at0_cond4,
    dev1_eq c, dev2_eq c, dev3_eq c]
  unfold Φ₀ start linear barToks
  iintro ⟨⟨⟨⟨⟨%K, #HR, HatB, Hpos, ⟨Ht1, Ht2, Ht3⟩, Hxt, Hidle⟩, HcB, Hcr, #Hlev⟩, ⟨%f0, H0⟩, ⟨%f1, H1⟩, ⟨%f2, H2⟩, ⟨%f3, H3⟩⟩, HO, HM1, HM2, HM3⟩, Hk⟩
  ihave H3 := (Entails.of_eq (comm_slots c fullShare f3)) $$ H3
  icases H3 with ⟨Hs0, Hs1, Hs2, Hs3⟩
  -- the three signals, each with the slot its peer will fill
  ihave #Hi1 := (inv_at m K (peer 1 c, 0)) $$ HR
  ihave #Hr1 := (reached_at m K (peer 1 c, 0)) $$ HR
  iapply (Rounds.wp_signal 𝒱₀ ER (Rd m) (c : Thread nD τ) none (dst := (peer 1 c : Thread nD τ)) (κ := K (peer 1 c, 0))
      (d := 3) (by rw [duties_bar]; decide) ((amount_bar m (peer 1 c) 3).trans (by decide)) () (O₂ c) rfl) $$ [HO Ht1 Hs1]
  · isplitr; · iexact Hi1
    isplitl [HO]; · iexact HO
    isplitl [Ht1]; · iexact Ht1
    isplitl [Hs1]; · iapply (bar_pay m c 1 3 (by decide) f3); iexact Hs1
    iexact Hr1
  iintro HO
  ihave #Hi2 := (inv_at m K (peer 2 c, 0)) $$ HR
  ihave #Hr2 := (reached_at m K (peer 2 c, 0)) $$ HR
  unfold O₂
  iapply (Rounds.wp_signal 𝒱₀ ER (Rd m) (c : Thread nD τ) none (dst := (peer 2 c : Thread nD τ)) (κ := K (peer 2 c, 0))
      (d := 2) (by rw [duties_bar]; decide) ((amount_bar m (peer 2 c) 2).trans (by decide)) () (O₁ c) rfl) $$ [HO Ht2 Hs2]
  · isplitr; · iexact Hi2
    isplitl [HO]; · iexact HO
    isplitl [Ht2]; · iexact Ht2
    isplitl [Hs2]; · iapply (bar_pay m c 2 2 (by decide) f3); iexact Hs2
    iexact Hr2
  iintro HO
  ihave #Hi3 := (inv_at m K (peer 3 c, 0)) $$ HR
  ihave #Hr3 := (reached_at m K (peer 3 c, 0)) $$ HR
  unfold O₁
  iapply (Rounds.wp_signal 𝒱₀ ER (Rd m) (c : Thread nD τ) none (dst := (peer 3 c : Thread nD τ)) (κ := K (peer 3 c, 0))
      (d := 1) (by rw [duties_bar]; decide) ((amount_bar m (peer 3 c) 1).trans (by decide)) () (R₃ c) rfl) $$ [HO Ht3 Hs3]
  · isplitr; · iexact Hi3
    isplitl [HO]; · iexact HO
    isplitl [Ht3]; · iexact Ht3
    isplitl [Hs3]; · iapply (bar_pay m c 3 1 (by decide) f3); iexact Hs3
    iexact Hr3
  iintro HO
  -- the wait for the three peers' signals
  ihave #Hib := (inv_at m K (c, 0)) $$ HR
  iapply (Rounds.wp_wait_rest_token 𝒱₀ ER (Rd m) (c : Thread nD τ) none (κ := K (c, 0))
      (wpE_semWait_eq 𝒱₀ (c : Thread nD τ) none Set.univ) (Set.mem_univ _) () (O := R₃ c) (W := W) (R := 0) (m := 0) (T := ∅)
      (by rw [expect_bar]; decide)) $$ [HcB HO HatB]
  · isplitr; · iexact Hib
    isplitl [HcB]; · iexact HcB
    isplitl [HO]; · iexact HO
    isplitr; · iapply (mayWait c (.reg barS) 1 (R₃ c) le_rfl (above_R₃ c)); iexact Hlev
    iexact HatB
  iintro ⟨HO, HatB, -, Hpay⟩
  ihave Hp := (Entails.of_eq (rest_bar m c)) $$ Hpay
  imod (Rounds.cell_close ER (Rd m) (Set.mem_univ (K (c, 0))) (fun h => h) (R := 0 + 1) (duties_later m (barCell c))) $$ [HatB] with HzB
  · isplitr; · iexact Hib
    iexact HatB
  -- the left operand into its scratch buffer
  ihave H0 := (own_of_buf c cc0_scratch0 f0) $$ H0
  ihave H1 := (own_of_buf c cc0_scratch1 f1) $$ H1
  ihave H2 := (own_of_buf c cc0_scratch2 f2) $$ H2
  iapply (step_load c M1 ![0, 0] hz _ _) $$ HM1; iintro HM1
  iapply (step_load c (Memref.whole cc0_scratch0) ![0, 0] hz _ _) $$ H0; iintro H0
  iapply (step_store c (Memref.whole cc0_scratch0) ![0, 0] hz _ _ _) $$ H0; iintro H0
  -- the chunk
  iapply (step_load c M2 ![0, 0] hz _ _) $$ HM2; iintro HM2
  iapply (step_load c (Memref.whole cc0_scratch0) ![0, 0] hz _ _) $$ H0; iintro H0
  iapply (step_load c M3 ![0, 0] hz _ _) $$ HM3; iintro HM3
  iapply (step_load c (Memref.whole cc0_scratch1) ![0, 0] hz _ _) $$ H1; iintro H1
  iapply (step_store c (Memref.whole cc0_scratch1) ![0, 0] hz _ _ _) $$ H1; iintro H1
  iapply (step_load c (Memref.whole cc0_scratch2) ![0, 0] hz _ _) $$ H2; iintro H2
  iapply (step_store c (Memref.whole cc0_scratch2) ![0, 0] hz _ _ _) $$ H2; iintro H2
  rw [wp_ret]; imodintro
  iapply Hk
  ihave H0 := (buf_of_own c cc0_scratch0 _) $$ H0
  ihave H1 := (buf_of_own c cc0_scratch1 _) $$ H1
  ihave H2 := (buf_of_own c cc0_scratch2 _) $$ H2
  unfold Φ₁ mid slots
  isplitr [HO HM1 HM2 HM3]
  · isplitl [Hpos Hxt Hcr Hidle HzB]
    · isplitl [Hpos Hxt]
      · iexists K
        isplitr; · iexact HR
        isplitl [Hpos]; · iexact Hpos
        iexact Hxt
      isplitl [Hcr]; · iexact Hcr
      isplitl [Hidle]; · iexact Hidle
      isplitl [HzB]; · iexact HzB
      iexact Hlev
    isplitl [H0]; · iexact H0
    isplitl [H1]; · iexact H1
    isplitl [H2]; · iexact H2
    isplitl [Hs0]; · iexists f3; iexact Hs0
    iexact Hp
  isplitl [HO]; · iexists _; iexact HO
  isplitl [HM1]; · iexact HM1
  isplitl [HM2]; · iexact HM2
  iexact HM3

end Cert.Xent

end
-- ==== Proof.Body1.lean ====
/-
A middle grid point: one more chunk added to the two sums.
-/
module

public import proofs.«01_k».proof.Proof.Slots

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The body at a middle grid point, which is neither the first nor the last. -/
theorem body1 (c : Dev nD) (t : Fin cfg0.N) (n : ℕ) (ht : t = pt (n + 1))
    (q1 : ¬ k0_cond1 (grid0.coords t) = 1#1) (q4 : ¬ k0_cond4 (grid0.coords t) = 1#1)
    (q2 : ¬ Scalar.cmpi .ne (Scalar.extui (Scalar.cmpi .eq (BitVec.ofNat 32 ((grid0.coords t) 0).val) 0#32) : BitVec 32) 0#32 = 1#1)
    (q3 : Scalar.cmpi .ne (Scalar.extui (Scalar.cmpi .sgt (BitVec.ofNat 32 ((grid0.coords t) 0).val) 0#32) : BitVec 32) 0#32 = 1#1)
    (M1 : Memref sig .tc .vmem S512x1024 .bf16) (h1 : M1.IsWhole) (M2 : Memref sig .tc .vmem S1024x2048 .bf16) (h2 : M2.IsWhole)
    (M3 : Memref sig .tc .vmem S512x1 .i32) (h3 : M3.IsWhole) (M4 : Memref sig .tc .vmem S512x1 .f32) (h4 : M4.IsWhole) (Kt : PUnit → sProp 𝕄) :
    iprop((Φ₁ m c n ∗ own c M2 (wb m c (n + 1)) ∗ own c M3 (lb m c (n + 1)))
        ∗ ((Φ₁ m c (n + 1) ∗ own c M2 (wb m c (n + 1)) ∗ own c M3 (lb m c (n + 1))) -∗ Kt ⟨⟩))
      ⊢ wp frame (wpE (defs₀ (F := F)) 𝒱₀ c none) Set.univ
          (cc0_body (grid0.coords t) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  simp only [cc0_body_eq_skeleton]; unfold cc0_body_skel
  simp only [k0_part6_eq_skeleton]; unfold k0_part6_skel
  simp only [dif_neg q1]
  simp only [Prog.lift, Prog.bind_op, Prog.bind_ret, Prog.pure_eq_ret, wp_deviceId, dif_neg q2, dif_pos q3, dif_neg q4]
  subst ht
  unfold Φ₁
  iintro ⟨⟨⟨Hmid, H0, H1, H2, Hsl⟩, HM2, HM3⟩, Hk⟩
  ihave H0 := (own_of_buf c cc0_scratch0 _) $$ H0
  ihave H1 := (own_of_buf c cc0_scratch1 _) $$ H1
  ihave H2 := (own_of_buf c cc0_scratch2 _) $$ H2
  iapply (step_load c M2 ![0, 0] hz _ _) $$ HM2; iintro HM2
  iapply (step_load c (Memref.whole cc0_scratch0) ![0, 0] hz _ _) $$ H0; iintro H0
  iapply (step_load c M3 ![0, 0] hz _ _) $$ HM3; iintro HM3
  iapply (step_load c (Memref.whole cc0_scratch1) ![0, 0] hz _ _) $$ H1; iintro H1
  iapply (step_load c (Memref.whole cc0_scratch1) ![0, 0] hz _ _) $$ H1; iintro H1
  iapply (step_store c (Memref.whole cc0_scratch1) ![0, 0] hz _ _ _) $$ H1; iintro H1
  iapply (step_load c (Memref.whole cc0_scratch2) ![0, 0] hz _ _) $$ H2; iintro H2
  iapply (step_load c (Memref.whole cc0_scratch2) ![0, 0] hz _ _) $$ H2; iintro H2
  iapply (step_store c (Memref.whole cc0_scratch2) ![0, 0] hz _ _ _) $$ H2; iintro H2
  rw [wp_ret]; imodintro
  iapply Hk
  ihave H0 := (buf_of_own c cc0_scratch0 _) $$ H0
  ihave H1 := (buf_of_own c cc0_scratch1 _) $$ H1
  ihave H2 := (buf_of_own c cc0_scratch2 _) $$ H2
  isplitr [HM2 HM3]
  · isplitl [Hmid]; · iexact Hmid
    isplitl [H0]; · iexact H0
    isplitl [H1]; · iexact H1
    isplitl [H2]; · iexact H2
    iexact Hsl
  isplitl [HM2]; · iexact HM2
  iexact HM3

end Cert.Xent

end
-- ==== Proof.Body3.lean ====
/-
The last grid point: the last chunk, the exchange of the rows, and the result.
-/
module

public import proofs.«01_k».proof.Proof.Slots

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

omit [FloatOps F] in
theorem at3_first : ¬ Scalar.cmpi .ne (Scalar.extui (Scalar.cmpi .eq (BitVec.ofNat 32 ((grid0.coords t0_3) 0).val) 0#32) : BitVec 32) 0#32 = 1#1 := by decide
omit [FloatOps F] in
theorem at3_later : Scalar.cmpi .ne (Scalar.extui (Scalar.cmpi .sgt (BitVec.ofNat 32 ((grid0.coords t0_3) 0).val) 0#32) : BitVec 32) 0#32 = 1#1 := by decide
omit [FloatOps F] in
theorem at3_cond1 : ¬ k0_cond1 (grid0.coords t0_3) = 1#1 := by decide
omit [FloatOps F] in
theorem at3_cond4 : k0_cond4 (grid0.coords t0_3) = 1#1 := by decide

/-- A device's store of its row into its own slot leaves the exchanged contents there. -/
theorem own_row (c : Dev nD) (off : Fin 3 → Nat) (inb) (h : off = ![(place c).val, 0, 0]) (f : cc0_scratch3.ty.Contents (Elt F)) :
    ((c : Thread nD τ).loc cc0_scratch3 ↦[slotSet (place c)]{fullShare}
        ((commM.access (Rect.unit (s := S4x512x2) off S1x512x2.size inb) : View sig .tc _ _ _).write (Elt F) f (row m c) Finset.univ) : sProp 𝕄)
      ⊢ slotPts c (place c) fullShare (commAll m c) := by
  unfold slotPts
  rw [pointsTo_congr (slot_stored m c off inb h f)]

theorem own_row_sets (c : Dev nD) (off : Fin 3 → Nat) (inb) (h : off = ![(place c).val, 0, 0]) :
    (commM.access (Rect.unit (s := S4x512x2) off S1x512x2.size inb) : View sig .tc _ _ _).setOn Finset.univ ⊆ slotSet (place c) := by
  intro i hi
  rw [← access_set off inb (place c) h]
  exact hi
theorem own_row_loads (c : Dev nD) (off : Fin 3 → Nat) (inb) (h : off = ![(place c).val, 0, 0]) :
    commM.view.setOn (Rect.unit (s := S4x512x2) off S1x512x2.size inb).toLoadRect.set ⊆ slotSet (place c) := by
  intro i hi
  rw [← rect_slot off inb (place c) h]
  obtain ⟨x, hx, rfl⟩ := Finset.mem_map.mp hi
  exact hx

/-- The store of the row into the own slot. -/
theorem store_row (c : Dev nD) (off : Fin 3 → Nat) (inb) (h : off = ![(place c).val, 0, 0]) (f : cc0_scratch3.ty.Contents (Elt F))
    (w : S1x512x2.Idx → Elt F .f32) (hw : w = row m c)
    {hx : (commM.access (Rect.unit (s := S4x512x2) off S1x512x2.size inb)).Stores Finset.univ}
    {hm : (Finset.univ : Finset (Rect.unit (s := S4x512x2) off S1x512x2.size inb).shape.Idx) = Finset.univ ∨ ∀ a, (Rect.unit (s := S4x512x2) off S1x512x2.size inb).stride a = 1}
    {α : Type} {Q : α → sProp 𝕄} {k : PUnit → Prog (TpuEff nD τ sig (Elt F) Λ₀ .tc) α} :
    ((c : Thread nD τ).loc cc0_scratch3 ↦[slotSet (place c)]{fullShare} f : sProp 𝕄)
      ⊢ iprop((slotPts c (place c) fullShare (commAll m c) -∗ wp frame (wpE (defs₀ (F := F)) 𝒱₀ (c : Thread nD τ) none) Set.univ (k ⟨⟩) Q)
        -∗ wp frame (wpE (defs₀ (F := F)) 𝒱₀ (c : Thread nD τ) none) Set.univ
            (.op (.store commM (Rect.unit (s := S4x512x2) off S1x512x2.size inb) w Finset.univ hx hm) k) Q) := by
  subst hw
  exact (wp_store 𝒱₀ (c : Thread nD τ) none Set.univ (m := commM) (r := Rect.unit (s := S4x512x2) off S1x512x2.size inb)
    (Mk := Finset.univ) (own_row_sets c _ _ h)).trans (wand_mono_left (wand_mono_left (own_row m c off inb h f)))

/-- The kernel's loads of the exchanged buffer, at any share of it. -/
theorem load_col (c : Dev nD) (q : PosShare TreeShare) (off : Fin 3 → Nat) (inb : ∀ a, off a + S1x512x1.size a ≤ S4x512x2.size a)
    {hl : commM.view.LoadsAt (Rect.unit (s := S4x512x2) off S1x512x1.size inb).toLoadRect}
    {α : Type} {Q : α → sProp 𝕄} {k : (S1x512x1.Idx → Elt F .f32) → Prog (TpuEff nD τ sig (Elt F) Λ₀ .tc) α} :
    ((c : Thread nD τ).loc cc0_scratch3 ↦{q} (commAll m c) : sProp 𝕄)
      ⊢ iprop(((((c : Thread nD τ).loc cc0_scratch3 ↦{q} (commAll m c))) -∗ wp frame (wpE (defs₀ (F := F)) 𝒱₀ (c : Thread nD τ) none) Set.univ (k (col m c off inb)) Q)
        -∗ wp frame (wpE (defs₀ (F := F)) 𝒱₀ (c : Thread nD τ) none) Set.univ
            (.op (.load commM (Rect.unit (s := S4x512x2) off S1x512x1.size inb).toLoadRect hl) k) Q) :=
  wp_load 𝒱₀ (c : Thread nD τ) none Set.univ (m := commM) (Finset.subset_univ _)

set_option maxHeartbeats 3200000 in
/-- The body at the last grid point. -/
theorem body3 (c : Dev nD) (M1 : Memref sig .tc .vmem S512x1024 .bf16) (h1 : M1.IsWhole) (M2 : Memref sig .tc .vmem S1024x2048 .bf16) (h2 : M2.IsWhole)
    (M3 : Memref sig .tc .vmem S512x1 .i32) (h3 : M3.IsWhole) (M4 : Memref sig .tc .vmem S512x1 .f32) (h4 : M4.IsWhole) (W : Waits sig Unit)
    (X : S512x1.Idx → Elt F .f32) (Kt : PUnit → sProp 𝕄) :
    iprop((Φ₁ m c 2 ∗ owes (c : Thread nD τ) (R₃ c) W ∗ own c M2 (wb m c 3) ∗ own c M3 (lb m c 3) ∗ own c M4 X)
        ∗ ((Φ₂ c ∗ (∃ W', owes (c : Thread nD τ) 0 W') ∗ own c M2 (wb m c 3) ∗ own c M3 (lb m c 3) ∗ own c M4 (outAt m c)) -∗ Kt ⟨⟩))
      ⊢ wp frame (wpE (defs₀ (F := F)) 𝒱₀ c none) Set.univ
          (cc0_body (grid0.coords t0_3) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  simp only [cc0_body_eq_skeleton]; unfold cc0_body_skel
  simp only [k0_part6_eq_skeleton]; unfold k0_part6_skel
  simp only [dif_neg at3_cond1]
  simp only [Prog.lift, Prog.bind_op, Prog.bind_ret, Prog.pure_eq_ret, wp_deviceId, dif_neg at3_first, dif_pos at3_later, dif_pos at3_cond4]
  simp only [k0_part2_eq_skeleton, k0_part3_eq_skeleton, k0_part4_eq_skeleton, k0_part5_eq_skeleton]
  unfold k0_part2_skel k0_part3_skel k0_part4_skel k0_part5_skel
  simp only [Prog.lift, Prog.bind_op, Prog.bind_ret, Prog.pure_eq_ret]
  unfold Φ₁ mid slots barPay xferPos xferToks recvCreds
  iintro ⟨⟨⟨⟨⟨%K, #HR, ⟨⟨HpS1, HpS2, HpS3⟩, HpR1, HpR2, HpR3⟩, ⟨HtR1, HtR2, HtR3⟩, HtS1, HtS2, HtS3⟩, ⟨HcR1, HcR2, HcR3⟩, Hidle, HzB, -⟩,
    H0, H1, H2, ⟨%f3, Hs⟩, ⟨%g1, Hg1⟩, ⟨%g2, Hg2⟩, ⟨%g3, Hg3⟩⟩, HO, HM2, HM3, HM4⟩, Hk⟩
  ihave H0 := (own_of_buf c cc0_scratch0 _) $$ H0
  ihave H1 := (own_of_buf c cc0_scratch1 _) $$ H1
  ihave H2 := (own_of_buf c cc0_scratch2 _) $$ H2
  -- the last chunk
  iapply (step_load c M2 ![0, 0] hz _ _) $$ HM2; iintro HM2
  iapply (step_load c (Memref.whole cc0_scratch0) ![0, 0] hz _ _) $$ H0; iintro H0
  iapply (step_load c M3 ![0, 0] hz _ _) $$ HM3; iintro HM3
  iapply (step_load c (Memref.whole cc0_scratch1) ![0, 0] hz _ _) $$ H1; iintro H1
  iapply (step_load c (Memref.whole cc0_scratch1) ![0, 0] hz _ _) $$ H1; iintro H1
  iapply (step_store c (Memref.whole cc0_scratch1) ![0, 0] hz _ _ _) $$ H1; iintro H1
  iapply (step_load c (Memref.whole cc0_scratch2) ![0, 0] hz _ _) $$ H2; iintro H2
  iapply (step_load c (Memref.whole cc0_scratch2) ![0, 0] hz _ _) $$ H2; iintro H2
  iapply (step_store c (Memref.whole cc0_scratch2) ![0, 0] hz _ _ _) $$ H2; iintro H2
  -- the row into the own slot
  iapply (step_load c (Memref.whole cc0_scratch1) ![0, 0] hz _ _) $$ H1; iintro H1
  iapply (step_load c (Memref.whole cc0_scratch2) ![0, 0] hz _ _) $$ H2; iintro H2
  unfold slotPts
  iapply (wp_load 𝒱₀ (c : Thread nD τ) none Set.univ (m := commM) (own_row_loads c _ _ (off1_slot c))) $$ Hs; iintro Hs
  iapply (store_row m c _ _ (off1_slot c) f3 _ rfl) $$ Hs; iintro Hs
  ihave Hs := (slot_split c (place c) (commAll m c)) $$ Hs
  icases Hs with ⟨Hq0, Hq1, Hq2, Hq3⟩
  -- the three copies
  unfold R₃
  iapply (step_send m K c _ 1 3 (dev4_eq c _) (by decide) (by decide) _ _ (off2_slot c) _ _ rfl rfl g1 (R₂ c) W) $$ [Hq1 Hg1 HO HtS1 HtR1]
  · isplitr; · iexact HR
    isplitl [Hq1]; · iexact Hq1
    isplitl [Hg1]; · unfold slotPts; iexact Hg1
    isplitl [HO]; · iexact HO
    isplitl [HtS1]; · iexact HtS1
    iexact HtR1
  iintro ⟨HcS1, HO⟩
  unfold R₂
  iapply (step_send m K c _ 2 2 (dev5_eq c _) (by decide) (by decide) _ _ (off2_slot c) _ _ rfl rfl g2 (R₁ c) W) $$ [Hq2 Hg2 HO HtS2 HtR2]
  · isplitr; · iexact HR
    isplitl [Hq2]; · iexact Hq2
    isplitl [Hg2]; · unfold slotPts; iexact Hg2
    isplitl [HO]; · iexact HO
    isplitl [HtS2]; · iexact HtS2
    iexact HtR2
  iintro ⟨HcS2, HO⟩
  unfold R₁
  iapply (step_send m K c _ 3 1 (dev6_eq c _) (by decide) (by decide) _ _ (off2_slot c) _ _ rfl rfl g3 0 W) $$ [Hq3 Hg3 HO HtS3 HtR3]
  · isplitr; · iexact HR
    isplitl [Hq3]; · iexact Hq3
    isplitl [Hg3]; · unfold slotPts; iexact Hg3
    isplitl [HO]; · rw [zero_add]; iexact HO
    isplitl [HtS3]; · iexact HtS3
    iexact HtR3
  iintro ⟨HcS3, HO⟩
  -- the three landings
  iapply (step_recv m K c 1 (by decide) _ rfl _ _ W) $$ [HcR1 HO HpR1]
  · isplitr; · iexact HR
    isplitl [HcR1]; · iexact HcR1
    isplitl [HO]; · iexact HO
    iexact HpR1
  iintro ⟨HzR1, HO, Hl1⟩
  iapply (step_recv m K c 2 (by decide) _ rfl _ _ _) $$ [HcR2 HO HpR2]
  · isplitr; · iexact HR
    isplitl [HcR2]; · iexact HcR2
    isplitl [HO]; · iexact HO
    iexact HpR2
  iintro ⟨HzR2, HO, Hl2⟩
  iapply (step_recv m K c 3 (by decide) _ rfl _ _ _) $$ [HcR3 HO HpR3]
  · isplitr; · iexact HR
    isplitl [HcR3]; · iexact HcR3
    isplitl [HO]; · iexact HO
    iexact HpR3
  iintro ⟨HzR3, HO, Hl3⟩
  -- the loads of the exchanged buffer, at a share of it
  unfold recvPay
  ihave Hl1 := (slot_split c (place c + 1) (commAll m c)) $$ Hl1
  ihave Hl2 := (slot_split c (place c + 2) (commAll m c)) $$ Hl2
  ihave Hl3 := (slot_split c (place c + 3) (commAll m c)) $$ Hl3
  icases Hl1 with ⟨Ha0, Ha⟩
  icases Hl2 with ⟨Hb0, Hb⟩
  icases Hl3 with ⟨Hd0, Hd⟩
  ihave Hw := (Entails.of_eq (comm_slots c (qs 0) (commAll m c)).symm) $$ [Hq0 Ha0 Hb0 Hd0]
  · isplitl [Hq0]; · iexact Hq0
    isplitl [Ha0]; · iexact Ha0
    isplitl [Hb0]; · iexact Hb0
    iexact Hd0
  iapply (load_col m c (qs 0) _ _) $$ Hw; iintro Hw
  iapply (load_col m c (qs 0) _ _) $$ Hw; iintro Hw
  iapply (load_col m c (qs 0) _ _) $$ Hw; iintro Hw
  iapply (load_col m c (qs 0) _ _) $$ Hw; iintro Hw
  iapply (load_col m c (qs 0) _ _) $$ Hw; iintro Hw
  iapply (load_col m c (qs 0) _ _) $$ Hw; iintro Hw
  iapply (load_col m c (qs 0) _ _) $$ Hw; iintro Hw
  iapply (load_col m c (qs 0) _ _) $$ Hw; iintro Hw
  -- the result
  iapply (step_load c M4 ![0, 0] hz _ _) $$ HM4; iintro HM4
  iapply (step_store c M4 ![0, 0] hz _ _ _) $$ HM4; iintro HM4
  -- the own slot back from the three copies
  iapply (step_sent m K c 1 (by decide) _ rfl _ _ _) $$ [HcS1 HO HpS1]
  · isplitr; · iexact HR
    isplitl [HcS1]; · iexact HcS1
    isplitl [HO]; · iexact HO
    iexact HpS1
  iintro ⟨HzS1, HO, Hq1⟩
  iapply (step_sent m K c 2 (by decide) _ rfl _ _ _) $$ [HcS2 HO HpS2]
  · isplitr; · iexact HR
    isplitl [HcS2]; · iexact HcS2
    isplitl [HO]; · iexact HO
    iexact HpS2
  iintro ⟨HzS2, HO, Hq2⟩
  iapply (step_sent m K c 3 (by decide) _ rfl _ _ _) $$ [HcS3 HO HpS3]
  · isplitr; · iexact HR
    isplitl [HcS3]; · iexact HcS3
    isplitl [HO]; · iexact HO
    iexact HpS3
  iintro ⟨HzS3, HO, Hq3⟩
  rw [wp_ret]; imodintro
  iapply Hk
  unfold sendPay
  ihave Hw := (Entails.of_eq (comm_slots c (qs 0) (commAll m c))) $$ Hw
  icases Hw with ⟨Hq0, Ha0, Hb0, Hd0⟩
  ihave Hq := (slot_merge c (place c) (commAll m c)) $$ [Hq0 Hq1 Hq2 Hq3]
  · isplitl [Hq0]; · iexact Hq0
    isplitl [Hq1]; · iexact Hq1
    isplitl [Hq2]; · iexact Hq2
    iexact Hq3
  ihave Ha := (slot_merge c (place c + 1) (commAll m c)) $$ [Ha0 Ha]
  · isplitl [Ha0]; · iexact Ha0
    iexact Ha
  ihave Hb := (slot_merge c (place c + 2) (commAll m c)) $$ [Hb0 Hb]
  · isplitl [Hb0]; · iexact Hb0
    iexact Hb
  ihave Hd := (slot_merge c (place c + 3) (commAll m c)) $$ [Hd0 Hd]
  · isplitl [Hd0]; · iexact Hd0
    iexact Hd
  ihave Hw := (Entails.of_eq (comm_slots c fullShare (commAll m c)).symm) $$ [Hq Ha Hb Hd]
  · isplitl [Hq]; · iexact Hq
    isplitl [Ha]; · iexact Ha
    isplitl [Hb]; · iexact Hb
    iexact Hd
  ihave H0 := (buf_of_own c cc0_scratch0 _) $$ H0
  ihave H1 := (buf_of_own c cc0_scratch1 _) $$ H1
  ihave H2 := (buf_of_own c cc0_scratch2 _) $$ H2
  unfold Φ₂ done
  isplitr [HO HM2 HM3 HM4]
  · isplitl [Hidle HzS1 HzS2 HzS3 HzR1 HzR2 HzR3 HzB]
    · isplitl [Hidle]; · iexact Hidle
      isplitl [HzS1 HzS2 HzS3]
      · isplitl [HzS1]; · iexact HzS1
        isplitl [HzS2]; · iexact HzS2
        iexact HzS3
      isplitl [HzR1 HzR2 HzR3]
      · isplitl [HzR1]; · iexact HzR1
        isplitl [HzR2]; · iexact HzR2
        iexact HzR3
      iexact HzB
    isplitl [H0]; · iexists _; iexact H0
    isplitl [H1]; · iexists _; iexact H1
    isplitl [H2]; · iexists _; iexact H2
    iexists _; iexact Hw
  isplitl [HO]; · iexists _; iexact HO
  isplitl [HM2]; · iexact HM2
  isplitl [HM3]; · iexact HM3
  iexact HM4

end Cert.Xent

end
-- ==== Proof.Obligation.lean ====
/-
The four grid points as the obligation of the pipeline: each window is found at the block fetched for it, the result is
written at the last point, and until then its buffer is left as it was found.
-/
module

public import proofs.«01_k».proof.Proof.Body0
public import proofs.«01_k».proof.Proof.Body1
public import proofs.«01_k».proof.Proof.Body3
public import proofs.«01_k».proof.Proof.Gen.KernelIdeal.Points

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- Before the body, each of the first three windows holds its block. -/
theorem found0 (c : Dev nD) (t : Fin cfg0.N) (d) : (dats m ρ 0 c).before (0 : Fin 4) t d = iblk m c 0 t :=
  ((dats m ρ 0 c).before_in_eq_fetched (0 : Fin 4) rfl (fun _ => rfl) (fun _ _ _ => rfl) (fun t => by rfl) t d).trans (by rfl)
theorem found1 (c : Dev nD) (t : Fin cfg0.N) (d) : (dats m ρ 0 c).before (1 : Fin 4) t d = iblk m c 1 t :=
  ((dats m ρ 0 c).before_in_eq_fetched (1 : Fin 4) rfl (fun _ => rfl) (fun _ _ _ => rfl) (fun t => by rfl) t d).trans (by rfl)
theorem found2 (c : Dev nD) (t : Fin cfg0.N) (d) : (dats m ρ 0 c).before (2 : Fin 4) t d = iblk m c 2 t :=
  ((dats m ρ 0 c).before_in_eq_fetched (2 : Fin 4) rfl (fun _ => rfl) (fun _ _ _ => rfl) (fun t => by rfl) t d).trans (by rfl)

/-- After it, they hold the same; -/
theorem left012 (c : Dev nD) (w : Fin 4) (hw : w ≠ 3) (t : Fin cfg0.N) :
    (dats m ρ 0 c).leavesExact w t = owns (c : Thread nD τ) ((cfg0.win w).stage (cfg0.slots t w)) fullShare ((dats m ρ 0 c).after w t) := by
  unfold Dat.leavesExact
  rw [show cfg0.idle w (cfg0.grid.coords t) = false from by revert hw; fin_cases w <;> intro hw <;> first | rfl | exact absurd rfl hw]
/-- the result window is untouched before the last point, -/
theorem left3_early (c : Dev nD) (t : Fin cfg0.N) (h : cfg0.idle (3 : Fin 4) (cfg0.grid.coords t) = true) (hf : (cfg0.win (3 : Fin 4)).flush t = false) :
    (dats m ρ 0 c).leavesExact (3 : Fin 4) t
      = iprop(∃ d, owns (c : Thread nD τ) ((cfg0.win (3 : Fin 4)).stage (cfg0.slots t 3)) fullShare ((dats m ρ 0 c).before (3 : Fin 4) t d)) :=
  (dats m ρ 0 c).leavesExact_idle (3 : Fin 4) t h hf
/-- and holds the result after it. -/
theorem left3_last (c : Dev nD) : (dats m ρ 0 c).leavesExact (3 : Fin 4) t0_3
    = owns (c : Thread nD τ) ((cfg0.win (3 : Fin 4)).stage (cfg0.slots t0_3 3)) fullShare (outAt m c) := by
  unfold Dat.leavesExact
  rw [show cfg0.idle (3 : Fin 4) (cfg0.grid.coords t0_3) = false from by decide]
  rfl

omit [FloatOps F] in
theorem bigSep_W (Φ : Fin cfg0.W → sProp (MT nD τ sig Unit (Elt F) ℕ UU ℕ)) : bigSep Finset.univ Φ = iprop(Φ (0 : Fin 4) ∗ Φ (1 : Fin 4) ∗ Φ (2 : Fin 4) ∗ Φ (3 : Fin 4)) := bigSep_W0 Φ

omit [FloatOps F] in
theorem early0 : cfg0.idle (3 : Fin 4) (cfg0.grid.coords t0_0) = true ∧ (cfg0.win (3 : Fin 4)).flush t0_0 = false := by decide
omit [FloatOps F] in
theorem early1 : cfg0.idle (3 : Fin 4) (cfg0.grid.coords t0_1) = true ∧ (cfg0.win (3 : Fin 4)).flush t0_1 = false := by decide
omit [FloatOps F] in
theorem early2 : cfg0.idle (3 : Fin 4) (cfg0.grid.coords t0_2) = true ∧ (cfg0.win (3 : Fin 4)).flush t0_2 = false := by decide

/-- What the obligation grants before the point `t`, and what it asks after it. -/
def granted (c : Dev nD) (t : Fin cfg0.N) : sProp 𝕄 :=
  iprop((dats m ρ 0 c).Φ t.castSucc ∗ (dats m ρ 0 c).owesAt () t.castSucc
    ∗ (∃ d, own c (win0_0.stage (cfg0.slots t 0)) ((dats m ρ 0 c).before (0 : Fin 4) t d))
    ∗ (∃ d, own c (win0_1.stage (cfg0.slots t 1)) ((dats m ρ 0 c).before (1 : Fin 4) t d))
    ∗ (∃ d, own c (win0_2.stage (cfg0.slots t 2)) ((dats m ρ 0 c).before (2 : Fin 4) t d))
    ∗ (∃ d, own c (win0_3.stage (cfg0.slots t 3)) ((dats m ρ 0 c).before (3 : Fin 4) t d)))
def asked (c : Dev nD) (t : Fin cfg0.N) : sProp 𝕄 :=
  iprop((dats m ρ 0 c).Φ t.succ ∗ (dats m ρ 0 c).owesAt () t.succ
    ∗ (dats m ρ 0 c).leavesExact (0 : Fin 4) t ∗ (dats m ρ 0 c).leavesExact (1 : Fin 4) t ∗ (dats m ρ 0 c).leavesExact (2 : Fin 4) t
    ∗ (dats m ρ 0 c).leavesExact (3 : Fin 4) t)

theorem point0 (c : Dev nD) : granted m ρ c t0_0 ⊢ wp frame (wpE (defs₀ (F := F)) 𝒱₀ c none) Set.univ (bodyAt0 t0_0) (fun _ => asked m ρ c t0_0) := by
  unfold granted asked bodyAt0
  rw [left012 m ρ c 0 (by decide), left012 m ρ c 1 (by decide), left012 m ρ c 2 (by decide), left3_early m ρ c t0_0 early0.1 early0.2,
    show (dats m ρ 0 c).Φ t0_0.castSucc = Φ₀ m c from rfl, show (dats m ρ 0 c).Φ t0_0.succ = Φ₁ m c 0 from rfl]
  simp only [found0 m ρ c, found1 m ρ c, found2 m ρ c]
  iintro ⟨HΦ, Ho, ⟨%_, H0⟩, ⟨%_, H1⟩, ⟨%_, H2⟩, H3⟩
  unfold Dat.owesAt Pipeline.owesWithin
  icases Ho with ⟨%W, %hW, HO⟩
  iapply (body0 m c _ _ _ _ _ _ _ _ W fun _ => _)
  isplitl [HΦ HO H0 H1 H2]
  · isplitl [HΦ]; · iexact HΦ
    isplitl [HO]; · iexact HO
    isplitl [H0]; · iexact H0
    isplitl [H1]; · iexact H1
    iexact H2
  iintro ⟨HΦ, ⟨%W', HO⟩, H0, H1, H2⟩
  isplitl [HΦ]; · iexact HΦ
  isplitl [HO]
  · iexists W'
    isplitr; · ipureintro; exact fun _ _ => Or.inl trivial
    iexact HO
  isplitl [H0]; · iexact H0
  isplitl [H1]; · iexact H1
  isplitl [H2]; · iexact H2
  iexact H3

theorem point_mid (c : Dev nD) (t : Fin cfg0.N) (n : ℕ) (ht : t = pt (n + 1))
    (q1 : ¬ k0_cond1 (grid0.coords t) = 1#1) (q4 : ¬ k0_cond4 (grid0.coords t) = 1#1)
    (q2 : ¬ Scalar.cmpi .ne (Scalar.extui (Scalar.cmpi .eq (BitVec.ofNat 32 ((grid0.coords t) 0).val) 0#32) : BitVec 32) 0#32 = 1#1)
    (q3 : Scalar.cmpi .ne (Scalar.extui (Scalar.cmpi .sgt (BitVec.ofNat 32 ((grid0.coords t) 0).val) 0#32) : BitVec 32) 0#32 = 1#1)
    (hl : cfg0.idle (3 : Fin 4) (cfg0.grid.coords t) = true ∧ (cfg0.win (3 : Fin 4)).flush t = false)
    (hΦ : (dats (F := F) m ρ 0 c).Φ t.castSucc = Φ₁ m c n) (hΦ' : (dats (F := F) m ρ 0 c).Φ t.succ = Φ₁ m c (n + 1))
    (ho : (dats (F := F) m ρ 0 c).owed t.castSucc = R₃ c) (ho' : (dats (F := F) m ρ 0 c).owed t.succ = R₃ c) :
    granted m ρ c t ⊢ wp frame (wpE (defs₀ (F := F)) 𝒱₀ c none) Set.univ (bodyAt0 t) (fun _ => asked m ρ c t) := by
  unfold granted asked bodyAt0
  rw [left012 m ρ c 0 (by decide), left012 m ρ c 1 (by decide), left012 m ρ c 2 (by decide), left3_early m ρ c t hl.1 hl.2, hΦ, hΦ']
  simp only [found0 m ρ c, found1 m ρ c, found2 m ρ c]
  iintro ⟨HΦ, Ho, ⟨%_, H0⟩, ⟨%_, H1⟩, ⟨%_, H2⟩, H3⟩
  unfold Dat.owesAt Pipeline.owesWithin
  rw [ho, ho']
  icases Ho with ⟨%W, %hW, HO⟩
  subst ht
  iapply (body1 m c _ n rfl q1 q4 q2 q3 _ _ _ _ _ _ _ _ fun _ => _)
  isplitl [HΦ H1 H2]
  · isplitl [HΦ]; · iexact HΦ
    isplitl [H1]; · iexact H1
    iexact H2
  iintro ⟨HΦ, H1, H2⟩
  isplitl [HΦ]; · iexact HΦ
  isplitl [HO]
  · iexists W
    isplitr; · ipureintro; exact fun _ _ => Or.inl trivial
    iexact HO
  isplitl [H0]; · iexact H0
  isplitl [H1]; · iexact H1
  isplitl [H2]; · iexact H2
  iexact H3

theorem point3 (c : Dev nD) : granted m ρ c t0_3 ⊢ wp frame (wpE (defs₀ (F := F)) 𝒱₀ c none) Set.univ (bodyAt0 t0_3) (fun _ => asked m ρ c t0_3) := by
  unfold granted asked bodyAt0
  rw [left012 m ρ c 0 (by decide), left012 m ρ c 1 (by decide), left012 m ρ c 2 (by decide), left3_last m ρ c,
    show (dats m ρ 0 c).Φ t0_3.castSucc = Φ₁ m c 2 from rfl, show (dats m ρ 0 c).Φ t0_3.succ = Φ₂ c from rfl]
  simp only [found0 m ρ c, found1 m ρ c, found2 m ρ c]
  iintro ⟨HΦ, Ho, ⟨%_, H0⟩, ⟨%_, H1⟩, ⟨%_, H2⟩, ⟨%d, H3⟩⟩
  unfold Dat.owesAt Pipeline.owesWithin
  icases Ho with ⟨%W, %hW, HO⟩
  iapply (body3 m c _ _ _ _ _ _ _ _ W _ fun _ => _)
  isplitl [HΦ HO H1 H2 H3]
  · isplitl [HΦ]; · iexact HΦ
    isplitl [HO]; · iexact HO
    isplitl [H1]; · iexact H1
    isplitl [H2]; · iexact H2
    iexact H3
  iintro ⟨HΦ, ⟨%W', HO⟩, H1, H2, H3⟩
  isplitl [HΦ]; · iexact HΦ
  isplitl [HO]
  · iexists W'
    isplitr; · ipureintro; exact fun _ _ => Or.inl trivial
    iexact HO
  isplitl [H0]; · iexact H0
  isplitl [H1]; · iexact H1
  isplitl [H2]; · iexact H2
  iexact H3

theorem point (c : Dev nD) (t : Fin cfg0.N) : granted m ρ c t ⊢ wp frame (wpE (defs₀ (F := F)) 𝒱₀ c none) Set.univ (bodyAt0 t) (fun _ => asked m ρ c t) := by
  rcases fin_N0 t with h | h | h | h
  · subst h; exact point0 m ρ c
  · subst h; exact point_mid m ρ c t0_1 0 rfl (by decide) (by decide) (by decide) (by decide) early1 rfl rfl rfl rfl
  · subst h; exact point_mid m ρ c t0_2 1 rfl (by decide) (by decide) (by decide) (by decide) early2 rfl rfl rfl rfl
  · subst h; exact point3 m ρ c

/-- The obligation of the pipeline on device `c`. -/
theorem body_obligation (c : Dev nD) : BodyObligation (dats (F := F) m ρ 0 c) (defs₀ (F := F)) 𝒱₀ () Set.univ := fun t => by
  rw [bigSep_W, bigSep_W]
  exact point m ρ c t

end Cert.Xent

end
-- ==== Proof.Launch.lean ====
/-
The launch of the exchange on the mesh: the protocol's cells are set up, every duty's token is dealt to the device that
pays it, and the run of all devices ends with the result array at the computed contents, the arguments as they were
and every semaphore at zero.
-/
module

public import proofs.«01_k».proof.Proof.Obligation
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Pipeline.ValueKit
public import Idealize.ShloMosaic.Lib.Tactic

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens as the launch makes them -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := fun a b h =>
  Prod.ext (congrArg (fun g : GSem nD τ sig => g.1.1) h) (csem_injective (congrArg Prod.snd h))

def exchCells : Finset (GSem nD τ sig) := Finset.univ.map ⟨kcell, kcell_injective⟩

/-- The nine duties on a device's own cells: three of its barrier, one of each copy semaphore. -/
def dutyAt : Fin 9 → SemLoc sig × Fin 4 := fun
  | 0 => (.reg barS, 1) | 1 => (.reg barS, 2) | 2 => (.reg barS, 3)
  | 3 => (.dma (sendS 1), 0) | 4 => (.dma (sendS 2), 0) | 5 => (.dma (sendS 3), 0)
  | 6 => (.dma (recvS 1), 0) | 7 => (.dma (recvS 2), 0) | 8 => (.dma (recvS 3), 0)
theorem dutyAt_injective : Function.Injective dutyAt := by decide
abbrev tokOf (cj : Dev nD × Fin 9) : GSem nD τ sig × ℕ × Fin 4 := (((cj.1 : Thread nD τ), (dutyAt cj.2).1), 0, (dutyAt cj.2).2)
theorem tokOf_injective : Function.Injective (tokOf : Dev nD × Fin 9 → GSem nD τ sig × ℕ × Fin 4) := fun a b h =>
  Prod.ext (congrArg (fun x : GSem nD τ sig × ℕ × Fin 4 => x.1.1.1) h)
    (dutyAt_injective (Prod.ext (congrArg (fun x : GSem nD τ sig × ℕ × Fin 4 => x.1.2) h) (congrArg (fun x : GSem nD τ sig × ℕ × Fin 4 => x.2.2) h)))
def exchToks : Finset (GSem nD τ sig × ℕ × Fin 4) := Finset.univ.map ⟨tokOf, tokOf_injective⟩

/-- The launch's element: the pipeline's cells, and the exchange's. -/
def u₀ : UU :=
  (initOf (Pipeline.cells cfgs cellOf_inj) (Pipeline.launchToks cfgs cellOf_inj), initOf exchCells exchToks)

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch deals device `c`, -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- and what the devices together make of it. -/
def G' (c : Dev nD) : sProp 𝕄 := iprop(∃ K, records m K ∗ linear c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem cells_dealt (Φ : GSem nD τ sig → sProp 𝕄) :
    bigSep exchCells Φ = bigSep Finset.univ fun c : Dev nD => bigSep Finset.univ fun k : Fin 7 => Φ (kcell (c, k)) := by
  unfold exchCells; rw [bigSep_map, bigSep_univ_prod]; rfl
omit [FloatOps F] in
theorem toks_dealt : bigSep exchToks (fun x => (dutyTok ER x.1 x.2.1 x.2.2 : sProp 𝕄)) = bigSep Finset.univ fun c : Dev nD => toks c := by
  unfold exchToks; rw [bigSep_map, bigSep_univ_prod]
  exact bigSep_congr fun c _ => by unfold toks; rw [bigSep_fin9]; rfl

theorem fund_exch : BI.own (ER (initOf exchCells exchToks)) ⊢ (|==> bigSep Finset.univ (G m) : sProp 𝕄) := by
  iintro HX
  imod (Rounds.fund ER (Rd m) exchCells exchToks) $$ HX with ⟨Hst, Hr, Hat, Htok⟩
  imodintro
  ihave Hst' := (Entails.of_eq (cells_dealt fun g => roundState ER (Rd m) g 0)) $$ Hst
  ihave Hat' := (Entails.of_eq (cells_dealt (F := F) fun g => atPos ER g 0 ∅ 0)) $$ Hat
  ihave Hr' := (Entails.of_eq (cells_dealt (F := F) fun g => reached ER g 0)) $$ Hr
  ihave Htok' := (Entails.of_eq (toks_dealt (F := F))) $$ Htok
  unfold G; simp only [bigSep_sep']
  isplitl [Hst']; · iexact Hst'
  isplitl [Hat' Hr']
  · isplitl [Hat']; · iexact Hat'
    iexact Hr'
  iexact Htok'

omit [FloatOps F] in
/-- The copy semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
/-- the barrier semaphore is the launch's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 7 => (semVal (kcell (c, k)) 0 : sProp 𝕄)) ∗ idleSems c) := by
  rw [ownSems0_eq, unscopedSems0_eq, bigSep_fin7]
  unfold idleSems
  iintro ⟨⟨HS0, HS1, HS2, HS3, HV0, HV1, HV2, HV3⟩, HB⟩
  isplitr [HS0 HV0]
  · isplitl [HB]; · iexact HB
    isplitl [HS1]; · iexact HS1
    isplitl [HS2]; · iexact HS2
    isplitl [HS3]; · iexact HS3
    isplitl [HV1]; · iexact HV1
    isplitl [HV2]; · iexact HV2
    iexact HV3
  isplitl [HS0]; · iexact HS0
  iexact HV0

/-- A cell's invariant from its counter at zero and its round state. -/
theorem cells_alloc (c : Dev nD) :
    iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idleSems c) := by
  unfold G
  iintro ⟨Hos, Hus, Hst, Hat, Htok⟩
  ihave Hv := (sems0_split (F := F) c) $$ [Hos Hus]
  · isplitl [Hos] <;> iassumption
  icases Hv with ⟨Hv, Hidle⟩
  imod (cells_alloc m c) $$ [Hv Hst] with Hinv
  · isplitl [Hv] <;> iassumption
  imodintro
  isplitl [Hinv]; · iexact Hinv
  isplitl [Hat]; · iexact Hat
  isplitl [Htok]; · iexact Htok
  iexact Hidle

omit [FloatOps F] in
/-- Each token to the device that pays the duty: duty `e` of a barrier, and the landing on receive semaphore `e`, to
    the peer from which the owner is `4 - e` places on. -/
theorem toks_around : (bigSep Finset.univ fun c : Dev nD => (toks c : sProp 𝕄)) ⊢ bigSep Finset.univ fun c : Dev nD => iprop(barToks c ∗ xferToks c) := by
  unfold toks barToks xferToks
  simp only [bigSep_sep']
  rw [bigSep_univ_equiv (turn 3) (fun c : Dev nD => (dutyTok ER (barCell c) 0 1 : sProp 𝕄)),
    bigSep_univ_equiv (turn 2) (fun c : Dev nD => (dutyTok ER (barCell c) 0 2 : sProp 𝕄)),
    bigSep_univ_equiv (turn 1) (fun c : Dev nD => (dutyTok ER (barCell c) 0 3 : sProp 𝕄)),
    bigSep_univ_equiv (turn 3) (fun c : Dev nD => (dutyTok ER (recvCell c 1) 0 0 : sProp 𝕄)),
    bigSep_univ_equiv (turn 2) (fun c : Dev nD => (dutyTok ER (recvCell c 2) 0 0 : sProp 𝕄)),
    bigSep_univ_equiv (turn 1) (fun c : Dev nD => (dutyTok ER (recvCell c 3) 0 0 : sProp 𝕄))]
  iintro ⟨B1, B2, B3, S1, S2, S3, V1, V2, V3⟩
  isplitl [B1 B2 B3]
  · isplitl [B3]; · iexact B3
    isplitl [B2]; · iexact B2
    iexact B1
  isplitl [V1 V2 V3]
  · isplitl [V3]; · iexact V3
    isplitl [V2]; · iexact V2
    iexact V1
  isplitl [S1]; · iexact S1
  isplitl [S2]; · iexact S2
  iexact S3

theorem with_records (K : Dev nD × Fin 7 → ℕ) (Φ Ψ : Dev nD → sProp 𝕄) (h : ∀ c, iprop(records m K ∗ Φ c) ⊢ Ψ c) :
    iprop(records m K ∗ bigSep Finset.univ Φ) ⊢ bigSep Finset.univ Ψ :=
  (sep_mono_left (BI.bigSep_of_persistent Finset.univ (records m K))).trans (by rw [← bigSep_sep']; exact bigSep_mono fun c _ => h c)

theorem linear_intro (K : Dev nD × Fin 7 → ℕ) (c : Dev nD) :
    iprop(records m K ∗ ((bigSep Finset.univ fun k : Fin 7 => (atPos ER (kcell (c, k)) 0 ∅ 0 : sProp 𝕄)) ∗ (barToks c ∗ xferToks c) ∗ idleSems c)) ⊢ G' m c := by
  rw [bigSep_fin7]
  unfold G' linear xferPos
  iintro ⟨HR, ⟨A0, A1, A2, A3, A4, A5, A6⟩, ⟨HB, HX⟩, HI⟩
  iexists K
  isplitl [HR]; · iexact HR
  isplitl [A0]; · iexact A0
  isplitl [A1 A2 A3 A4 A5 A6]
  · isplitl [A1 A2 A3]
    · isplitl [A1]; · iexact A1
      isplitl [A2]; · iexact A2
      iexact A3
    isplitl [A4]; · iexact A4
    isplitl [A5]; · iexact A5
    iexact A6
  isplitl [HB]; · iexact HB
  isplitl [HX]; · iexact HX
  iexact HI

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hidle⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (with_records m K _ _ fun c => linear_intro m K c)
  isplitr
  · unfold records; isplitl; · iexact HI
    iexact HR
  · simp only [bigSep_sep']
    isplitl [Hat]; · iexact Hat
    isplitl [Htk]; · iexact Htk
    iexact Hidle

/-- All devices at once: the cells set up and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Who owes a cell: the device `e` places on from `d` is `c` exactly when `d` is the device `-e` places on from `c`. -/
theorem peer_eq_iff (e : Fin 4) (c d : Dev nD) : c = peer e d ↔ d = peer (-e) c :=
  ⟨fun h => by rw [h, peer_neg], fun h => by rw [h, peer_neg']⟩

/-- What a tally at a peer's cell counts at device `c`'s cell. -/
theorem tally_peer (s s' : SemLoc sig) (e : Fin 4) (n : ℕ) (c d : Dev nD) :
    (tallyAt ((peer e d : Thread nD τ), s) () n : CellTallies nD τ sig Unit) ((c : Thread nD τ), s') ()
      = if s = s' then (if d = peer (-e) c then n else 0) else 0 := by
  rw [tallyAt_apply]
  by_cases hs : s = s'
  · subst hs
    rw [if_pos rfl]
    by_cases h : d = peer (-e) c
    · rw [if_pos h, (peer_eq_iff e c d).mpr h, if_pos ⟨rfl, rfl⟩]
    · rw [if_neg h, if_neg]
      rintro ⟨h', -⟩
      exact h ((peer_eq_iff e c d).mp (congrArg (fun g : GSem nD τ sig => g.1.1) h'))
  · rw [if_neg hs, if_neg]
    rintro ⟨h', -⟩
    exact hs (congrArg Prod.snd h').symm

theorem owed_cell (d c : Dev nD) (s : SemLoc sig) : O₃ d ((c : Thread nD τ), s) ()
    = (if SemLoc.dma (recvS 1) = s then (if d = peer (-3) c then N else 0) else 0)
      + (if SemLoc.dma (recvS 2) = s then (if d = peer (-2) c then N else 0) else 0)
      + (if SemLoc.dma (recvS 3) = s then (if d = peer (-1) c then N else 0) else 0)
      + (if SemLoc.reg barS = s then (if d = peer (-3) c then 1 else 0) else 0)
      + (if SemLoc.reg barS = s then (if d = peer (-2) c then 1 else 0) else 0)
      + (if SemLoc.reg barS = s then (if d = peer (-1) c then 1 else 0) else 0) := by
  unfold O₃ O₂ O₁ R₃ R₂ R₁
  simp only [Pi.add_apply, Finsupp.add_apply]
  rw [tally_peer, tally_peer, tally_peer, tally_peer, tally_peer, tally_peer]

theorem sum_owed_one (p : Prop) [Decidable p] (c : Dev nD) (n : ℕ) :
    (∑ d : Dev nD, if p then (if d = c then n else 0) else 0) = if p then n else 0 := by
  by_cases h : p
  · simp only [if_pos h]; rw [Finset.sum_ite_eq' Finset.univ c fun _ => n, if_pos (Finset.mem_univ _)]
  · simp only [if_neg h]; exact Finset.sum_const_zero

/-- What all devices together owe a cell of device `c`. -/
theorem owed_sum (c : Dev nD) (s : SemLoc sig) : (∑ d : Dev nD, O₃ d ((c : Thread nD τ), s) ())
    = (if SemLoc.dma (recvS 1) = s then N else 0) + (if SemLoc.dma (recvS 2) = s then N else 0) + (if SemLoc.dma (recvS 3) = s then N else 0)
      + (if SemLoc.reg barS = s then 1 else 0) + (if SemLoc.reg barS = s then 1 else 0) + (if SemLoc.reg barS = s then 1 else 0) := by
  rw [Finset.sum_congr rfl fun d _ => owed_cell d c s, Finset.sum_add_distrib, Finset.sum_add_distrib, Finset.sum_add_distrib,
    Finset.sum_add_distrib, Finset.sum_add_distrib, sum_owed_one, sum_owed_one, sum_owed_one, sum_owed_one, sum_owed_one, sum_owed_one]

theorem launch_at (c : Dev nD) (s : SemLoc sig) (n : ℕ) (h : (∑ d : Dev nD, O₃ d ((c : Thread nD τ), s) ()) = n) :
    tallyOn ((c : Thread nD τ), s) (launchCredit (Pipeline.owing O₃) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₃) 0 (barCell c)) = (tallyAt (barCell c) () 3 : CellTallies nD τ sig Unit) :=
  launch_at c _ 3 (by
    rw [owed_sum]
    simp only [if_neg (show ¬ SemLoc.dma (recvS 1) = SemLoc.reg barS by decide), if_neg (show ¬ SemLoc.dma (recvS 2) = SemLoc.reg barS by decide),
      if_neg (show ¬ SemLoc.dma (recvS 3) = SemLoc.reg barS by decide), if_pos])

theorem launch_recv (c : Dev nD) (e : Fin 4) (he : e ≠ 0) :
    tallyOn (recvCell c e) (launchCredit (Pipeline.owing O₃) 0 (recvCell c e)) = (tallyAt (recvCell c e) () N : CellTallies nD τ sig Unit) :=
  launch_at c _ N (by
    rw [owed_sum]
    have hb : ¬ SemLoc.reg barS = SemLoc.dma (recvS e) := by intro h; cases h
    simp only [if_neg hb]
    have h : ∀ e : Fin 4, e ≠ 0 → ∀ n : ℕ, (if SemLoc.dma (recvS 1) = (SemLoc.dma (recvS e) : SemLoc sig) then n else 0)
        + (if SemLoc.dma (recvS 2) = (SemLoc.dma (recvS e) : SemLoc sig) then n else 0)
        + (if SemLoc.dma (recvS 3) = (SemLoc.dma (recvS e) : SemLoc sig) then n else 0) = n := by
      intro e he n
      fin_cases e
      · exact absurd rfl he
      · rw [if_pos (by decide), if_neg (by decide), if_neg (by decide), Nat.add_zero]
      · rw [if_neg (by decide), if_pos (by decide), if_neg (by decide)]; omega
      · rw [if_neg (by decide), if_neg (by decide), if_pos (by decide), Nat.zero_add]
    exact h e he N)

omit [FloatOps F] in
theorem bigSep_used (Φ : SemLoc sig → sProp 𝕄) :
    bigSep Finset.univ Φ ⊢ iprop(Φ (SemLoc.reg barS) ∗ Φ (SemLoc.dma (recvS 1)) ∗ Φ (SemLoc.dma (recvS 2)) ∗ Φ (SemLoc.dma (recvS 3))) :=
  (BI.bigSep_subset (Finset.subset_univ ({SemLoc.reg barS, SemLoc.dma (recvS 1), SemLoc.dma (recvS 2), SemLoc.dma (recvS 3)} : Finset (SemLoc sig)))).trans
    (Entails.of_eq ((bigSep_eq_bigSepL_of_eq [SemLoc.reg barS, SemLoc.dma (recvS 1), SemLoc.dma (recvS 2), SemLoc.dma (recvS 3)]
      (by decide) (by decide) Φ).trans rfl))

omit [FloatOps F] in
theorem creds (c : Dev nD) :
    (Pipeline.launchCred O₃ c : sProp 𝕄) ⊢ iprop(cred (tallyAt (barCell c) () 3) ∗ recvCreds c) := by
  unfold Pipeline.launchCred recvCreds
  rw [← launch_bar, ← launch_recv c 1 (by decide), ← launch_recv c 2 (by decide), ← launch_recv c 3 (by decide)]
  exact bigSep_used _

/-! ## The sides of the region -/

theorem start_intro (c : Dev nD) :
    iprop(Pipeline.unscopedRestP Pipeline.Prefetch.none cfg0.spec c (fun b => m ((c : Thread nD τ).loc b)) ∗ levAts L lv
        ∗ Pipeline.launchCred O₃ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV]; · iexact HV
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1, H2, H3⟩
  isplitl [Hs]; · iexact Hs
  isplitl [H0]; · iexact H0
  isplitl [H1]; · iexact H1
  isplitl [H2]; · iexact H2
  iexact H3

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₂ c from rfl, scopedRest0_eq, ownSems0_eq, unscopedSems0_eq]
  unfold Φ₂ done idleSems
  iintro ⟨⟨⟨S0, V0⟩, ⟨S1, S2, S3⟩, ⟨V1, V2, V3⟩, HB⟩, H0, H1, H2, H3⟩
  isplitl [HB]; · iexact HB
  isplitl [S0 S1 S2 S3 V0 V1 V2 V3]
  · isplitl [S0]; · iexact S0
    isplitl [S1]; · iexact S1
    isplitl [S2]; · iexact S2
    isplitl [S3]; · iexact S3
    isplitl [V0]; · iexact V0
    isplitl [V1]; · iexact V1
    isplitl [V2]; · iexact V2
    iexact V3
  isplitl [H0]; · iexact H0
  isplitl [H1]; · iexact H1
  isplitl [H2]; · iexact H2
  iexact H3

/-- The fetches' and the flush's waits are below everything owed. -/
theorem owed_above (c : Dev nD) (t) : Above 0 ((dats (F := F) m ρ 0 c).owed t) := by
  rcases t with ⟨_ | _ | _ | _ | _, ht⟩
  · exact above_O₃ c
  · exact above_mono (Nat.zero_le 1) (above_R₃ c)
  · exact above_mono (Nat.zero_le 1) (above_R₃ c)
  · exact above_mono (Nat.zero_le 1) (above_R₃ c)
  · exact Above.zero 0

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by fin_cases w <;> fin_cases s <;> exact Nat.le_refl 0) (owed_above m ρ c _)

/-! ## The run -/

/-- An array's contents after the last grid point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair run of the thirty-two devices ends, with every array of every device at
    its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₃) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were; -/
theorem finalA_in (c : Dev nD) (w : Fin 4) (hw : w ≠ 3) : finalA m ρ c w = m ((cfg0.win w).arr.view.loc (c : Thread nD τ)) := by
  refine (dats (F := F) m ρ 0 c).arrAt_in w ?_ _
  revert hw; fin_cases w <;> intro hw <;> first | rfl | exact absurd rfl hw

omit [FloatOps F] in
theorem out_index : ∀ t : Fin cfg0.N, win0_3.index t = ![0, 0] := (by decide +kernel : ∀ t : Fin grid0.N, _)

/-- the result array ends at the computed contents: its one block is the whole array, written after the last point. -/
theorem finalA_out (c : Dev nD) : finalA m ρ c (3 : Fin 4) = outAt m c := by
  refine (dats (F := F) m ρ 0 c).arrAt_eq_of_covers (3 : Fin 4) (outAt m c) (by decide +kernel) fun t hf y => ?_
  blk_simp
  show outAt m c y = outAt m c _
  refine congrArg (outAt m c) ?_
  blk_ext [out_index]

end Cert.Xent

end
-- ==== Proof.LogSum.lean ====
/-
Logarithms of sums of exponentials over the extended reals: shifting by the greatest entry, and merging the sums of four
parts.
-/
module

public import Idealize.ShloMosaic.PureOps.Ideal

@[expose] public section

noncomputable section

namespace Cert.Xent

open Idealize.ShloMosaic

/-- An exponential is not negative. -/
theorem exp_nonneg (x : EReal) : 0 ≤ Ideal.exp x := by
  induction x using EReal.rec with
  | bot => simp
  | top => simp
  | coe r => simpa using (Real.exp_pos r).le

/-- The logarithm of zero. -/
theorem log_zero : Ideal.log 0 = ⊥ := by
  rw [← EReal.coe_zero, Ideal.log_coe, if_pos le_rfl]

/-- The exponential undoes the logarithm of what is not negative. -/
theorem exp_log {x : EReal} (h : 0 ≤ x) : Ideal.exp (Ideal.log x) = x := by
  induction x using EReal.rec with
  | bot => simp at h
  | top => simp
  | coe r =>
    have h0 : (0 : ℝ) ≤ r := by exact_mod_cast h
    rcases h0.eq_or_lt with rfl | hr
    · simp [log_zero]
    · simp [not_le.2 hr, Real.exp_log hr]

/-- A logarithm is infinite only of the infinite. -/
theorem log_eq_top {x : EReal} : Ideal.log x = ⊤ ↔ x = ⊤ := by
  induction x using EReal.rec with
  | bot => simp
  | top => simp
  | coe r => by_cases h : r ≤ 0 <;> simp [h]

/-- An exponential is infinite only of the infinite. -/
theorem exp_eq_top {x : EReal} : Ideal.exp x = ⊤ ↔ x = ⊤ := by
  induction x using EReal.rec <;> simp

/-- A sum of reals among the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of entries that are not negative is infinite exactly when one of them is. -/
theorem sum_eq_top {ι : Type*} (s : Finset ι) (f : ι → EReal) (h : ∀ i ∈ s, 0 ≤ f i) : ∑ i ∈ s, f i = ⊤ ↔ ∃ i ∈ s, f i = ⊤ := by
  classical
  induction s using Finset.induction_on with
  | empty => simp
  | insert a s ha ih =>
    have hs : ∀ i ∈ s, 0 ≤ f i := fun i hi => h i (Finset.mem_insert_of_mem hi)
    have h0 : (0 : EReal) ≤ ∑ i ∈ s, f i := Finset.sum_nonneg hs
    have ha0 : 0 ≤ f a := h a (Finset.mem_insert_self _ _)
    have e := not_congr (EReal.add_ne_top_iff_ne_top₂ (fun h => by simp [h] at ha0) (fun h => by simp [h] at h0) :
      f a + ∑ i ∈ s, f i ≠ ⊤ ↔ _)
    rw [Finset.sum_insert ha, ← not_not (a := _ = ⊤), ← ne_eq, e, not_and_or, not_not, not_not, ih hs]
    simp

/-- The logarithm of a sum of exponentials, taken after every entry was lowered by the greatest one and raised by it
    again: the same logarithm, unless the greatest entry is infinite. -/
theorem shifted {ι : Type*} (s : Finset ι) (f : ι → EReal) (m : EReal) (hm : ∀ i ∈ s, f i ≤ m) (hx : ∃ i ∈ s, f i = m) :
    m + Ideal.log (∑ i ∈ s, Ideal.exp (f i - m)) = if m = ⊤ then ⊥ else Ideal.log (∑ i ∈ s, Ideal.exp (f i)) := by
  induction m using EReal.rec with
  | bot =>
    have hf : ∀ i ∈ s, f i = ⊥ := fun i hi => le_bot_iff.1 (hm i hi)
    have h0 : ∑ i ∈ s, Ideal.exp (f i) = 0 := Finset.sum_eq_zero fun i hi => by rw [hf i hi]; rfl
    simp [h0, log_zero, EReal.bot_add]
  | top =>
    have h0 : ∑ i ∈ s, Ideal.exp (f i - ⊤) = ((0 : ℝ) : EReal) := Finset.sum_eq_zero fun i hi => by
      have : f i - ⊤ = ⊥ := by rw [sub_eq_add_neg, EReal.neg_top, EReal.add_bot]
      rw [this]; rfl
    rw [h0]; simp [log_zero]
  | coe r =>
    obtain ⟨a, ha, hfa⟩ := hx
    have e1 : ∀ i ∈ s, Ideal.exp (f i) = (((Ideal.exp (f i)).toReal : ℝ) : EReal) ∧
        Ideal.exp (f i - r) = (((Ideal.exp (f i)).toReal * Real.exp (-r) : ℝ) : EReal) := by
      intro i hi
      have h := hm i hi
      generalize f i = x at h
      induction x using EReal.rec with
      | bot => simp [EReal.bot_sub]
      | top => simp at h
      | coe q =>
        refine ⟨by simp, ?_⟩
        rw [← EReal.coe_sub, Ideal.exp_coe, Ideal.exp_coe, EReal.toReal_coe, ← Real.exp_add, sub_eq_add_neg]
    have hpos : 0 < ∑ i ∈ s, (Ideal.exp (f i)).toReal := by
      refine Finset.sum_pos' (fun i hi => EReal.toReal_nonneg (exp_nonneg _)) ⟨a, ha, ?_⟩
      rw [hfa]; simpa using Real.exp_pos r
    rw [Finset.sum_congr rfl fun i hi => (e1 i hi).2, Finset.sum_congr rfl fun i hi => (e1 i hi).1, sum_coe, sum_coe,
      ← Finset.sum_mul, Ideal.log_coe, Ideal.log_coe, if_neg (not_le.2 hpos), if_neg (not_le.2 (mul_pos hpos (Real.exp_pos _))),
      if_neg (EReal.coe_ne_top r), Real.log_mul hpos.ne' (Real.exp_pos _).ne', Real.log_exp, ← EReal.coe_add]
    congr 1; ring

/-- Four parts, each summed by itself and merged through the logarithms of its sums, against one pass over all the
    entries with their greatest one taken off. -/
theorem merged {κ : Type*} [Fintype κ] (l : Fin 4 → κ → EReal) (g m : EReal)
    (hg : ∀ k, Ideal.log (∑ j, Ideal.exp (l k j)) ≤ g) (hg' : ∃ k, Ideal.log (∑ j, Ideal.exp (l k j)) = g)
    (hm : ∀ k j, l k j ≤ m) (hm' : ∃ k j, l k j = m) :
    g + Ideal.log (∑ k, Ideal.exp (Ideal.log (∑ j, Ideal.exp (l k j)) - g))
      = m + Ideal.log (∑ p : Fin 4 × κ, Ideal.exp (l p.1 p.2 - m)) := by
  have hS : ∀ k, 0 ≤ ∑ j, Ideal.exp (l k j) := fun k => Finset.sum_nonneg fun j _ => exp_nonneg _
  rw [shifted Finset.univ (fun k => Ideal.log (∑ j, Ideal.exp (l k j))) g (fun k _ => hg k) (by obtain ⟨k, h⟩ := hg'; exact ⟨k, Finset.mem_univ _, h⟩),
    shifted Finset.univ (fun p : Fin 4 × κ => l p.1 p.2) m (fun p _ => hm _ _) (by obtain ⟨k, j, h⟩ := hm'; exact ⟨(k, j), Finset.mem_univ _, h⟩)]
  have e : ∑ k, Ideal.exp (Ideal.log (∑ j, Ideal.exp (l k j))) = ∑ p : Fin 4 × κ, Ideal.exp (l p.1 p.2) := by
    rw [Fintype.sum_prod_type]; exact Finset.sum_congr rfl fun k _ => exp_log (hS k)
  have t : g = ⊤ ↔ m = ⊤ := by
    constructor
    · rintro rfl
      obtain ⟨k, h⟩ := hg'
      obtain ⟨j, _, hj⟩ := (sum_eq_top _ _ fun j _ => exp_nonneg _).1 (log_eq_top.1 h)
      exact top_le_iff.1 (exp_eq_top.1 hj ▸ hm k j)
    · rintro rfl
      obtain ⟨k, j, h⟩ := hm'
      have : Ideal.log (∑ j, Ideal.exp (l k j)) = ⊤ :=
        log_eq_top.2 ((sum_eq_top _ _ fun j _ => exp_nonneg _).2 ⟨j, Finset.mem_univ _, exp_eq_top.2 h⟩)
      exact top_le_iff.1 (this ▸ hg k)
  rw [e]
  by_cases h : g = ⊤
  · rw [if_pos h, if_pos (t.1 h)]
  · rw [if_neg h, if_neg fun h' => h (t.2 h')]

end Cert.Xent

end
-- ==== Proof.Chunk.lean ====
/-
What one block of columns contributes, over the extended reals: the sum of the exponentials of its logits, and the logit
at the label if the label names one of its columns.
-/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Xent

open Cert.KernelIdeal Cert.KernelIdeal.Gen
open Idealize.ShloMosaic Idealize.ShloMosaic.TcCoe

/-- The logit of row `r` at lane `l` of a block. -/
def dot (x : FVec Ideal S512x1024 .bf16) (w : FVec Ideal S1024x2048 .bf16) (r : Fin 512) (l : Fin 2048) : EReal :=
  ∑ k : Fin 1024, x (ix2 r k) * w (ix2 k l)

/-- A block's sum of exponentials. -/
theorem pay16_at (w : FVec Ideal S1024x2048 .bf16) (x : FVec Ideal S512x1024 .bf16) (r : Fin 512) :
    k0_pay16 (F := Ideal) w x (ix2 r 0) = ∑ l : Fin 2048, Ideal.exp (dot x w r l) := by
  pointwise [k0_pay16, k0_pay15, dot]

/-- The word that a device computes for its place in its group. -/
theorem place_word (d : Dev nD) : Scalar.remsi (Scalar.divsi d.word 1#32) 4#32 = BitVec.ofNat 32 (d.val % 4) := by
  revert d; decide +kernel

/-- A column's word equals a label's exactly when the column's number is the label's. -/
theorem column_hit (d : Dev nD) (j : Fin 4) (l : Fin 2048) (y : BitVec 32) :
    IntOp.cmpi CmpIPredicate.eq (IntOp.addi (BitVec.ofNat 32 l.val)
      (Scalar.addi (Scalar.muli (Scalar.remsi (Scalar.divsi d.word 1#32) 4#32) 8192#32) (Scalar.muli (BitVec.ofNat 32 j.val) 2048#32))) y = 1#1
      ↔ (d.val % 4 * 8192 + j.val * 2048 + l.val : ℕ) = y.toNat := by
  rw [place_word]
  have hd : d.val % 4 < 4 := Nat.mod_lt _ (by decide)
  have hj := j.isLt
  have hl := l.isLt
  generalize d.val % 4 = q at hd
  have e : IntOp.addi (BitVec.ofNat 32 l.val) (Scalar.addi (Scalar.muli (BitVec.ofNat 32 q) 8192#32) (Scalar.muli (BitVec.ofNat 32 j.val) 2048#32))
      = BitVec.ofNat 32 (q * 8192 + j.val * 2048 + l.val) := by
    apply BitVec.eq_of_toNat_eq
    show (BitVec.ofNat 32 l.val + (BitVec.ofNat 32 q * 8192#32 + BitVec.ofNat 32 j.val * 2048#32)).toNat = _
    simp only [BitVec.toNat_add, BitVec.toNat_mul, BitVec.toNat_ofNat]
    omega
  rw [e]
  show BitVec.ofBool (BitVec.ofNat 32 (q * 8192 + j.val * 2048 + l.val) == y) = 1#1 ↔ _
  rw [show (1#1 : BitVec 1) = BitVec.ofBool true from rfl]
  constructor
  · intro h
    have h' : (BitVec.ofNat 32 (q * 8192 + j.val * 2048 + l.val) == y) = true := by
      revert h; cases (BitVec.ofNat 32 (q * 8192 + j.val * 2048 + l.val) == y) <;> simp
    rw [← beq_iff_eq.1 h', BitVec.toNat_ofNat]; omega
  · intro h
    rw [h, BitVec.ofNat_toNat, BitVec.setWidth_eq, beq_self_eq_true]

/-- A bit that is not one is zero. -/
theorem bit_off {b : BitVec 1} (h : b ≠ 1#1) : b = 0#1 := by
  revert b; decide

/-- A block's logit at the label, or zero. -/
theorem pay17_at (i : grid0.Coords) (d : Dev nD) (w : FVec Ideal S1024x2048 .bf16) (x : FVec Ideal S512x1024 .bf16) (lab : IVec S512x1 32) (r : Fin 512) :
    k0_pay17 (F := Ideal) i d w x lab (ix2 r 0)
      = ∑ l : Fin 2048, if (d.val % 4 * 8192 + (i 0).val * 2048 + l.val : ℕ) = (lab (ix2 r 0)).toNat then dot x w r l else 0 := by
  pointwise [k0_pay17, k0_pay15, dot]
  refine Finset.sum_congr rfl fun l _ => ?_
  rw [← dot]
  by_cases h : (d.val % 4 * 8192 + (i 0).val * 2048 + l.val : ℕ) = (lab (ix2 r 0)).toNat
  · rw [if_pos h, (column_hit d (i 0) l (lab (ix2 r 0))).2 h]; rfl
  · rw [if_neg h, bit_off fun h' => h ((column_hit d (i 0) l (lab (ix2 r 0))).1 h')]; rfl

/-- The pair that a device sends: the logarithm of its sum, -/
theorem pay7_at0 (s l : FVec Ideal S512x1 .f32) (r : Fin 512) : k0_pay7 (F := Ideal) s l (ix3 0 r 0) = Ideal.log (s (ix2 r 0)) := by
  pointwise [k0_pay7]

/-- and its labelled logit. -/
theorem pay7_at1 (s l : FVec Ideal S512x1 .f32) (r : Fin 512) : k0_pay7 (F := Ideal) s l (ix3 0 r 1) = l (ix2 r 0) := by
  pointwise [k0_pay7]

/-- The merge of the four pairs that a device holds after the exchange. -/
def mergeOf (a l : Fin 4 → EReal) : EReal :=
  max (max (max (a 0) (a 1)) (a 2)) (a 3) + Ideal.log (∑ k, Ideal.exp (a k - max (max (max (a 0) (a 1)) (a 2)) (a 3))) - ∑ k, l k

/-- What the last grid point stores is the merge of the columns it loads. -/
theorem merge_at (a0 a1 a2 a3 l0 l1 l2 l3 : FVec Ideal S1x512x1 .f32) (r : Fin 512) :
    k0_pay5 (F := Ideal) (k0_pay10 a2) (k0_pay11 a3) (k0_pay12 l0 l1 l2 l3) (k0_pay13 a0 a1 a2 a3) (k0_pay14 a0 a1 a2 a3) (ix2 r 0)
      = mergeOf ![a0 (ix3 0 r 0), a1 (ix3 0 r 0), a2 (ix3 0 r 0), a3 (ix3 0 r 0)] ![l0 (ix3 0 r 0), l1 (ix3 0 r 0), l2 (ix3 0 r 0), l3 (ix3 0 r 0)] := by
  pointwise [k0_pay5, k0_pay8, k0_pay9, k0_pay10, k0_pay11, k0_pay12, k0_pay13, k0_pay14]
  rw [mergeOf, Fin.sum_univ_four, Fin.sum_univ_four]
  rfl

end Cert.Xent

end
-- ==== Proof.Result.lean ====
/-
The array that every device ends with, over the extended reals and at one row, from the whole arrays: the merge of the four
groups of columns.
-/
module

public import proofs.«01_k».proof.Proof.Launch
public import proofs.«01_k».proof.Proof.Chunk
public import Idealize.ShloMosaic.Lib.Layout

@[expose] public section

set_option maxRecDepth 16384

noncomputable section

namespace Cert.Xent

open Cert.KernelIdeal Cert.KernelIdeal.Gen
open Idealize.ShloMosaic Idealize.ShloMosaic.TcCoe Idealize.SL.Sem

variable (m : (ℓ : Loc nD τ sig) → Buf (Elt Ideal) ℓ)

/-- The blocks that the three inputs' windows cut out: all of the left operand, one quarter of the columns, all of the
    labels. -/
theorem windows : ∀ t : Fin cfg0.N, win0_0.index t = ![0, 0] ∧ win0_1.index t = ![0, t.val] ∧ win0_2.index t = ![0, 0] ∧ (grid0.coords t 0).val = t.val :=
  (by decide +kernel : ∀ t : Fin grid0.N, _)

/-- The left operand as kept is the argument, -/
theorem xb_at (c : Dev nD) (r : Fin 512) (k : Fin 1024) :
    (xb m c : FVec Ideal S512x1024 .bf16) (ix2 r k) = (m ((c.tc : Thread nD τ).loc main_arg0) : FVec Ideal S512x1024 .bf16) (ix2 r k) := by
  show (k0_pay6 (iblk m c 0 t0_0) : FVec Ideal S512x1024 .bf16) (ix2 r k) = _
  pointwise [k0_pay6]
  blk_ext [iblk, V, windows t0_0]

/-- a chunk is a quarter of the device's columns, -/
theorem wb_at (c : Dev nD) (n : Fin 4) (k : Fin 1024) (l : Fin 2048) :
    (wb m c n : FVec Ideal S1024x2048 .bf16) (ix2 k l)
      = (m ((c.tc : Thread nD τ).loc main_arg1) : FVec Ideal S1024x8192 .bf16) (ix2 k ⟨n.val * 2048 + l.val, by have := n.isLt; have := l.isLt; omega⟩) := by
  have hn : (pt n.val).val = n.val := Nat.mod_eq_of_lt n.isLt
  unfold wb
  blk_ext [iblk, V, windows (pt n.val), hn]

/-- and the labels are the argument. -/
theorem lb_at (c : Dev nD) (n : Nat) (r : Fin 512) :
    (lb m c n : IVec S512x1 32) (ix2 r 0) = (m ((c.tc : Thread nD τ).loc main_arg2) : IVec S512x1 32) (ix2 r 0) := by
  unfold lb
  blk_ext [iblk, V, windows (pt n)]

/-- The sum of exponentials that a device accumulates. -/
theorem sumS_at (c : Dev nD) (r : Fin 512) :
    (sumS m c 3 : FVec Ideal S512x1 .f32) (ix2 r 0) = ∑ n : Fin 4, (partS m c n : FVec Ideal S512x1 .f32) (ix2 r 0) := by
  rw [Fin.sum_univ_four]
  show (k0_pay3 (partS m c 3) (k0_pay3 (partS m c 2) (k0_pay3 (partS m c 1) (k0_pay1 (partS m c 0)))) : FVec Ideal S512x1 .f32) (ix2 r 0) = _
  pointwise [k0_pay1, k0_pay3]

/-- The labelled logit that a device accumulates. -/
theorem sumL_at (c : Dev nD) (r : Fin 512) :
    (sumL m c 3 : FVec Ideal S512x1 .f32) (ix2 r 0) = ∑ n : Fin 4, (partL m c n : FVec Ideal S512x1 .f32) (ix2 r 0) := by
  rw [Fin.sum_univ_four]
  show (k0_pay4 (partL m c 3) (k0_pay4 (partL m c 2) (k0_pay4 (partL m c 1) (k0_pay2 (partL m c 0)))) : FVec Ideal S512x1 .f32) (ix2 r 0) = _
  pointwise [k0_pay2, k0_pay4]

/-- A column that the last point loads, at a row: the pair of the group's device at that place. -/
theorem col_at (c : Dev nD) (k : Fin 4) (j : Fin 2) (off) (inb) (h : off = ![k.val, 0, j.val]) (r : Fin 512) :
    (col m c off inb : FVec Ideal S1x512x1 .f32) (ix3 0 r 0) = (row m (member c k) : FVec Ideal S1x512x2 .f32) (ix3 0 r j) := by
  subst h
  show row m (member c ⟨_, _⟩) (inSlot _) = _
  have e : (Rect.unit (s := S4x512x2) ![k.val, 0, j.val] S1x512x1.size inb).toLoadRect.idx (ix3 (0 : Fin 1) r (0 : Fin 1)) = ix3 k r j := by
    funext a
    apply Fin.ext
    fin_cases a
    · show k.val + 1 * 0 = k.val; omega
    · show 0 + 1 * r.val = r.val; omega
    · show j.val + 1 * 0 = j.val; omega
  have e' : ((commM.view.emb ((Rect.unit (s := S4x512x2) ![k.val, 0, j.val] S1x512x1.size inb).toLoadRect.idx (ix3 (0 : Fin 1) r (0 : Fin 1)))) : S4x512x2.Idx) = ix3 k r j := e
  have e2 : inSlot (ix3 k r j) = ix3 0 r j := by
    funext a
    apply Fin.ext
    fin_cases a <;> rfl
  show (row m (member c ⟨((commM.view.emb ((Rect.unit (s := S4x512x2) ![k.val, 0, j.val] S1x512x1.size inb).toLoadRect.idx (ix3 (0 : Fin 1) r (0 : Fin 1)))) 0).val, _⟩) : FVec Ideal S1x512x2 .f32)
    (inSlot (commM.view.emb ((Rect.unit (s := S4x512x2) ![k.val, 0, j.val] S1x512x1.size inb).toLoadRect.idx (ix3 (0 : Fin 1) r (0 : Fin 1))))) = _
  simp only [e', e2]
  rfl

/-- The columns of the whole right operand, by the place of the device that holds them, the chunk and the lane. -/
def column (k j : Fin 4) (l : Fin 2048) : Fin 32768 :=
  ⟨k.val * 8192 + j.val * 2048 + l.val, by have := k.isLt; have := j.isLt; have := l.isLt; omega⟩

/-- The logit of row `r` at column `p` of the whole product. -/
def logit (A : FVec Ideal S512x1024 .bf16) (B : FVec Ideal ⟨2, ![1024, 32768]⟩ .bf16) (r : Fin 512) (p : Fin 32768) : EReal :=
  ∑ k : Fin 1024, A (ix2 r k) * B (ix2 k p)

/-- Every device holds its part of the whole arrays: the left operand and the labels, and the columns of its place. -/
def Held (A : FVec Ideal S512x1024 .bf16) (B : FVec Ideal ⟨2, ![1024, 32768]⟩ .bf16) (Y : IVec S512x1 32) : Prop :=
  ∀ c : Dev nD, m ((c.tc : Thread nD τ).loc main_arg0) = A
    ∧ m ((c.tc : Thread nD τ).loc main_arg1) = Layout.blockN ⟨2, ![1024, 8192]⟩ ⟨2, ![1024, 32768]⟩ (Layout.meshBlock [2, 4, 4] ![[], [2]] c) B
    ∧ m ((c.tc : Thread nD τ).loc main_arg2) = Y

variable {m} {A : FVec Ideal S512x1024 .bf16} {B : FVec Ideal ⟨2, ![1024, 32768]⟩ .bf16} {Y : IVec S512x1 32}

/-- The block of columns that the mesh gives a device is that of its place. -/
theorem block_place : ∀ c : Dev nD, ((Layout.meshBlock [2, 4, 4] (![[], [2]] : Fin 2 → List Nat) c) 0).val = 0
    ∧ ((Layout.meshBlock [2, 4, 4] (![[], [2]] : Fin 2 → List Nat) c) 1).val = c.val % 4 := by decide +kernel

/-- A device's logits are those of the whole product at its columns. -/
theorem dot_at (h : Held m A B Y) (c : Dev nD) (n : Fin 4) (r : Fin 512) (l : Fin 2048) :
    dot (xb m c) (wb m c n) r l = logit A B r (column (place c) n l) := by
  refine Finset.sum_congr rfl fun k _ => ?_
  rw [xb_at, wb_at, (h c).1, (h c).2.1]
  congr 1
  refine congrArg B (funext fun a => Fin.ext ?_)
  obtain ⟨b0, b1⟩ := block_place c
  have hn := n.isLt
  have hl := l.isLt
  fin_cases a
  · refine (Layout.TilesN.idx_val _ _ _ _).trans ?_
    show ((Layout.meshBlock [2, 4, 4] (![[], [2]] : Fin 2 → List Nat) c) 0).val * 1024 + k.val = k.val
    omega
  · refine (Layout.TilesN.idx_val _ _ _ _).trans ?_
    show ((Layout.meshBlock [2, 4, 4] (![[], [2]] : Fin 2 → List Nat) c) 1).val * 8192 + (n.val * 2048 + l.val) = c.val % 4 * 8192 + n.val * 2048 + l.val
    omega

/-- The pair that a device sends, from the whole arrays: the logarithm of the sum of exponentials over its columns, -/
theorem row_at0 (h : Held m A B Y) (c : Dev nD) (r : Fin 512) :
    (row m c : FVec Ideal S1x512x2 .f32) (ix3 0 r 0)
      = Ideal.log (∑ q : Fin 4 × Fin 2048, Ideal.exp (logit A B r (column (place c) q.1 q.2))) := by
  unfold row
  rw [pay7_at0, sumS_at, Fintype.sum_prod_type]
  refine congrArg Ideal.log (Finset.sum_congr rfl fun n _ => ?_)
  unfold partS
  rw [pay16_at]
  exact Finset.sum_congr rfl fun l _ => by rw [dot_at h]

/-- and the logit at the label, if the label is among them. -/
theorem row_at1 (h : Held m A B Y) (c : Dev nD) (r : Fin 512) :
    (row m c : FVec Ideal S1x512x2 .f32) (ix3 0 r 1)
      = ∑ q : Fin 4 × Fin 2048, if (column (place c) q.1 q.2).val = (Y (ix2 r 0)).toNat then logit A B r (column (place c) q.1 q.2) else 0 := by
  unfold row
  rw [pay7_at1, sumL_at, Fintype.sum_prod_type]
  refine Finset.sum_congr rfl fun n _ => ?_
  unfold partL
  rw [pay17_at]
  refine Finset.sum_congr rfl fun l _ => ?_
  rw [dot_at h, lb_at, (h c).2.2, (windows (pt n.val)).2.2.2]
  have hn : (pt n.val).val = n.val := Nat.mod_eq_of_lt n.isLt
  rw [hn]
  rfl

/-- The result at a row: the merge of the pairs of the four places. -/
theorem out_at (h : Held m A B Y) (c : Dev nD) (r : Fin 512) :
    (outAt m c : FVec Ideal S512x1 .f32) (ix2 r 0)
      = mergeOf (fun k => Ideal.log (∑ q : Fin 4 × Fin 2048, Ideal.exp (logit A B r (column k q.1 q.2))))
        (fun k => ∑ q : Fin 4 × Fin 2048, if (column k q.1 q.2).val = (Y (ix2 r 0)).toNat then logit A B r (column k q.1 q.2) else 0) := by
  have hp : ∀ k, place (member c k) = k := fun k => by revert c k; decide +kernel
  unfold outAt
  rw [merge_at]
  congr 1
  · funext k
    fin_cases k
    · exact (col_at m c 0 0 _ _ rfl r).trans ((row_at0 h _ r).trans (by rw [hp]; rfl))
    · exact (col_at m c 1 0 _ _ rfl r).trans ((row_at0 h _ r).trans (by rw [hp]; rfl))
    · exact (col_at m c 2 0 _ _ rfl r).trans ((row_at0 h _ r).trans (by rw [hp]; rfl))
    · exact (col_at m c 3 0 _ _ rfl r).trans ((row_at0 h _ r).trans (by rw [hp]; rfl))
  · funext k
    fin_cases k
    · exact (col_at m c 0 1 _ _ rfl r).trans ((row_at1 h _ r).trans (by rw [hp]; rfl))
    · exact (col_at m c 1 1 _ _ rfl r).trans ((row_at1 h _ r).trans (by rw [hp]; rfl))
    · exact (col_at m c 2 1 _ _ rfl r).trans ((row_at1 h _ r).trans (by rw [hp]; rfl))
    · exact (col_at m c 3 1 _ _ rfl r).trans ((row_at1 h _ r).trans (by rw [hp]; rfl))

end Cert.Xent

end
-- ==== Proof.Equation.lean ====
/-
The equation between the two ways of computing the loss of one row: four groups of columns merged through their
logarithms, and one pass over all the columns.
-/
module

public import proofs.«01_k».proof.Proof.LogSum
public import proofs.«01_k».proof.Proof.Result

@[expose] public section

noncomputable section

namespace Cert.Xent

open Idealize.ShloMosaic

/-- The places, chunks and lanes number the columns without repetition, and all of them. -/
theorem column_bijective : Function.Bijective (fun q : Fin 4 × (Fin 4 × Fin 2048) => column q.1 q.2.1 q.2.2) := by
  rw [Fintype.bijective_iff_injective_and_card]
  refine ⟨?_, by simp⟩
  rintro ⟨k, j, l⟩ ⟨k', j', l'⟩ h
  have h' : k.val * 8192 + j.val * 2048 + l.val = k'.val * 8192 + j'.val * 2048 + l'.val := congrArg Fin.val h
  have := l.isLt; have := l'.isLt; have := j.isLt; have := j'.isLt
  refine Prod.ext (Fin.ext ?_) (Prod.ext (Fin.ext ?_) (Fin.ext ?_)) <;> dsimp <;> omega

/-- A sum over the columns, by place, chunk and lane. -/
theorem sum_columns (f : Fin 32768 → EReal) : ∑ q : Fin 4 × (Fin 4 × Fin 2048), f (column q.1 q.2.1 q.2.2) = ∑ p, f p :=
  column_bijective.sum_comp f

/-- The greatest of four is one of them. -/
theorem max_reached (a : Fin 4 → EReal) : ∃ k, a k = max (max (max (a 0) (a 1)) (a 2)) (a 3) := by
  rcases max_choice (max (max (a 0) (a 1)) (a 2)) (a 3) with h | h
  · rcases max_choice (max (a 0) (a 1)) (a 2) with h2 | h2
    · rcases max_choice (a 0) (a 1) with h1 | h1
      · exact ⟨0, by rw [h, h2, h1]⟩
      · exact ⟨1, by rw [h, h2, h1]⟩
    · exact ⟨2, by rw [h, h2]⟩
  · exact ⟨3, h.symm⟩

/-- The merge of the four places' pairs is the loss of the row: the logarithm of the sum of exponentials, taken about the
    greatest logit, less the logit at the label. -/
theorem merge_eq (f : Fin 32768 → EReal) (m : EReal) (hm : ∀ p, f p ≤ m) (hm' : ∃ p, f p = m) (y : Fin 32768) :
    mergeOf (fun k => Ideal.log (∑ q : Fin 4 × Fin 2048, Ideal.exp (f (column k q.1 q.2))))
        (fun k => ∑ q : Fin 4 × Fin 2048, if (column k q.1 q.2).val = y.val then f (column k q.1 q.2) else 0)
      = m + Ideal.log (∑ p, Ideal.exp (f p - m)) - f y := by
  unfold mergeOf
  congr 1
  · refine (merged (fun k (q : Fin 4 × Fin 2048) => f (column k q.1 q.2)) _ m (fun k => ?_) ?_ (fun k q => hm _) ?_).trans ?_
    · fin_cases k <;> simp
    · exact max_reached fun k => Ideal.log (∑ q : Fin 4 × Fin 2048, Ideal.exp (f (column k q.1 q.2)))
    · obtain ⟨p, hp⟩ := hm'
      obtain ⟨q, rfl⟩ := column_bijective.2 p
      exact ⟨q.1, q.2, hp⟩
    · rw [← sum_columns fun p => Ideal.exp (f p - m)]
  · rw [← Fintype.sum_prod_type' (f := fun k (q : Fin 4 × Fin 2048) => if (column k q.1 q.2).val = y.val then f (column k q.1 q.2) else 0),
      sum_columns fun p => if p.val = y.val then f p else 0]
    simp [Fin.val_inj]

end Cert.Xent

end
-- ==== Proof.Reference.lean ====
/-
What the reference computes at one row, over the extended reals.
-/
module

public import proofs.«01_k».proof.Proof.Gen.ReferenceIdeal
public import proofs.«01_k».proof.Proof.Gen.ReferenceIdeal.Run
public import proofs.«01_k».proof.Proof.Result

@[expose] public section

set_option maxRecDepth 16384

noncomputable section

namespace Cert.Xent

open Idealize.ShloMosaic Idealize.ShloMosaic.TcCoe Idealize.SL.Sem
open Cert.ReferenceIdeal Cert.ReferenceIdeal.Gen

/-- The product of the whole operands, -/
def product (A : FVec Ideal S512x1024 .bf16) (B : FVec Ideal S1024x32768 .bf16) : FVec Ideal S512x32768 .f32 :=
  Host.dotGeneral dot_S512x1024_S1024x32768_S512x32768_1_0_0_1_n_n none (extf .f32 A bitsLt_bf16_f32) (extf .f32 B bitsLt_bf16_f32)

/-- the greatest entry of each row of an array, -/
def rowMax (D : FVec Ideal S512x32768 .f32) : FVec Ideal S512 .f32 :=
  Host.reduce FloatOps.maximumf D (constant S_ .f32 0xFF800000#32) reducesTo_S512x32768_S512_d1 h_S_

/-- each row's sum of an array, -/
def rowSum (E : FVec Ideal S512x32768 .f32) : FVec Ideal S512 .f32 :=
  Host.reduceAdd E (constant S_ .f32 0x00000000#32) reducesTo_S512x32768_S512_d1 h_S_

/-- the exponentials of an array's entries, each lowered by its row's greatest, -/
def lowered (D : FVec Ideal S512x32768 .f32) (M : FVec Ideal S512 .f32) : FVec Ideal S512x32768 .f32 :=
  Host.exp (subf D (broadcastInDim S512x32768 ![0, 1] bcast_S512x1_S512x32768_0_1 (broadcastInDim S512x1 ![0] bcast_S512_S512x1_0 M)))

/-- a logarithm raised again, -/
def raised (M S : FVec Ideal S512 .f32) : FVec Ideal S512x1 .f32 :=
  addf (broadcastInDim S512x1 ![0] bcast_S512_S512x1_0 M) (Host.log (broadcastInDim S512x1 ![0] bcast_S512_S512x1_0 S))

/-- the positions picked, one for each row: the row and its label, each counted from the end if negative, -/
def picks (Y : IVec S512x1 32) : IVec S512x2 32 :=
  concatenate S512x2 1 [⟨S512x1, (broadcastInDim S512x1 ![0] bcast_S512_S512x1_0 (select (cmpi .slt (iotaInDim S512 32 0) (broadcastInDim S512 ![] bcast_S_S512 (constantI S_ 32 0#32))) (addi (iotaInDim S512 32 0) (broadcastInDim S512 ![] bcast_S_S512 (constantI S_ 32 512#32))) (iotaInDim S512 32 0)))⟩, ⟨S512x1, (broadcastInDim S512x1 ![0] bcast_S512_S512x1_0 (select (cmpi .slt (shapeCast _ Y shapeCasts_S512x1_S512) (broadcastInDim S512 ![] bcast_S_S512 (constantI S_ 32 0#32))) (addi (shapeCast _ Y shapeCasts_S512x1_S512) (broadcastInDim S512 ![] bcast_S_S512 (constantI S_ 32 32768#32))) (shapeCast _ Y shapeCasts_S512x1_S512)))⟩] concatenates_S512x1_S512x1_S512x2_d1

/-- a difference of two columns, -/
def less (L : FVec Ideal S512x1 .f32) (G : FVec Ideal S512 .f32) : FVec Ideal S512x1 .f32 :=
  shapeCast _ (subf (shapeCast _ L shapeCasts_S512x1_S512) G) shapeCasts_S512_S512x1

/-- and the loss. -/
def loss (A : FVec Ideal S512x1024 .bf16) (B : FVec Ideal S1024x32768 .bf16) (Y : IVec S512x1 32) : FVec Ideal S512x1 .f32 :=
  less (raised (rowMax (product A B)) (rowSum (lowered (product A B) (rowMax (product A B)))))
    (Host.gather gather_S512x32768_S512x2_S512_n_01_n_n_01_1_11 (product A B) (picks Y))

/-- An entry of the product is a logit. -/
theorem product_at (A : FVec Ideal S512x1024 .bf16) (B : FVec Ideal S1024x32768 .bf16) (r : Fin 512) (p : Fin 32768) :
    product A B (ix2 r p) = logit A B r p := by
  pointwise [product, logit]

/-- The word of minus infinity. -/
theorem neg_inf : Ideal.ofBits FTy.f32 0xFF800000#32 = ⊥ := by
  simp [Ideal.ofBits, Ideal.ieee]

/-- A word that is not negative is not counted from the end. -/
theorem count_front (w n : BitVec 32) (h : w.toNat < 2 ^ 31) : Scalar.select (IntOp.cmpi CmpIPredicate.slt w 0#32) (IntOp.addi w n) w = w := by
  have e : IntOp.cmpi CmpIPredicate.slt w 0#32 = 0#1 := by
    show BitVec.ofBool (w.slt 0#32) = 0#1
    have : w.slt 0#32 = false := by
      rw [BitVec.slt_eq_decide, decide_eq_false_iff_not]
      rw [BitVec.toInt_eq_toNat_of_lt (by omega)]; simp
    rw [this]; rfl
  rw [e]; rfl

/-- A row's sum. -/
theorem rowSum_at (E : FVec Ideal S512x32768 .f32) (r : Fin 512) : rowSum E (ix1 r) = ∑ p : Fin 32768, E (ix2 r p) := by
  pointwise [rowSum]

/-- A lowered entry. -/
theorem lowered_at (D : FVec Ideal S512x32768 .f32) (M : FVec Ideal S512 .f32) (r : Fin 512) (p : Fin 32768) :
    lowered D M (ix2 r p) = Ideal.exp (D (ix2 r p) - M (ix1 r)) := by
  pointwise [lowered]

/-- A raised logarithm. -/
theorem raised_at (M S : FVec Ideal S512 .f32) (r : Fin 512) : raised M S (ix2 r 0) = M (ix1 r) + Ideal.log (S (ix1 r)) := by
  pointwise [raised]

/-- A difference. -/
theorem less_at (L : FVec Ideal S512x1 .f32) (G : FVec Ideal S512 .f32) (r : Fin 512) : less L G (ix2 r 0) = L (ix2 r 0) - G (ix1 r) := by
  pointwise [less]

/-- A row's greatest entry. -/
theorem rowMax_at (D : FVec Ideal S512x32768 .f32) (r : Fin 512) : rowMax D (ix1 r) = Finset.univ.fold max ⊥ fun p : Fin 32768 => D (ix2 r p) := by
  rw [← neg_inf]
  pointwise [rowMax]

/-- A row counts itself from the front. -/
theorem picks_at0 (Y : IVec S512x1 32) (r : Fin 512) : picks Y (ix2 r 0) = BitVec.ofNat 32 r.val := by
  pointwise [picks]
  rw [count_front _ _ (by have := r.isLt; rw [BitVec.toNat_ofNat]; omega)]

/-- So does a label that is not negative. -/
theorem picks_at1 (Y : IVec S512x1 32) (r : Fin 512) (h : (Y (ix2 r 0)).toNat < 32768) : picks Y (ix2 r 1) = Y (ix2 r 0) := by
  pointwise [picks]
  rw [count_front _ _ (by omega)]

/-- The index words of the two coordinates that a pick reads. -/
theorem pick_word (r : Fin 512) (a : Fin 2) (h) :
    gather_S512x32768_S512x2_S512_n_01_n_n_01_1_11.siIdx (ix1 r)
      ⟨List.idxOf (a : Fin S512x32768.rank) gather_S512x32768_S512x2_S512_n_01_n_n_01_1_11.startIndexMap, h⟩ = ix2 r a := by
  funext b; refine Fin.ext ?_
  fin_cases a <;> fin_cases b <;> rfl

/-- A pick reads the array at the row and column that the index words name, if these lie inside it. -/
theorem pick_at (D : FVec Ideal S512x32768 .f32) (idx : IVec S512x2 32) (r : Fin 512) (p : Fin 32768)
    (h0 : (idx (ix2 r 0)).toInt.toNat = r.val) (h1 : (idx (ix2 r 1)).toInt.toNat = p.val) :
    Host.gather gather_S512x32768_S512x2_S512_n_01_n_n_01_1_11 D idx (ix1 r) = D (ix2 r p) := by
  unfold Host.gather
  refine congrArg D (funext fun a => Fin.ext ?_)
  have hm : ∀ a : Fin 2, a ∈ gather_S512x32768_S512x2_S512_n_01_n_n_01_1_11.collapsedSliceDims := by decide
  have hs : ∀ a : Fin 2, a ∈ gather_S512x32768_S512x2_S512_n_01_n_n_01_1_11.startIndexMap := by decide
  show gather_S512x32768_S512x2_S512_n_01_n_n_01_1_11.start (ix1 r) idx a + gather_S512x32768_S512x2_S512_n_01_n_n_01_1_11.batchCoord (ix1 r) a
    + gather_S512x32768_S512x2_S512_n_01_n_n_01_1_11.offCoord (ix1 r) a = _
  rw [GatherDims.batchCoord_eq_zero _ _ _ List.not_mem_nil, GatherDims.offCoord_eq_zero _ _ _ (fun h => ((GatherDims.mem_sKept _ _).mp h).1 (hm a)),
    Nat.add_zero]
  unfold GatherDims.start
  rw [dif_pos (hs a), pick_word]
  have hr := r.isLt
  have hp := p.isLt
  fin_cases a
  · show min (idx (ix2 r 0)).toInt.toNat (512 - 1) = r.val
    rw [h0]; omega
  · show min (idx (ix2 r 1)).toInt.toNat (32768 - 1) = p.val
    rw [h1]; omega

/-- The greatest of finitely many entries bounds them all and is one of them. -/
theorem fold_max {ι : Type} [Fintype ι] [Nonempty ι] (f : ι → EReal) :
    (∀ p, f p ≤ Finset.univ.fold max ⊥ f) ∧ ∃ p, f p = Finset.univ.fold max ⊥ f := by
  have e : Finset.univ.fold max ⊥ f = Finset.univ.sup f := rfl
  rw [e]
  refine ⟨fun p => Finset.le_sup (Finset.mem_univ p), ?_⟩
  obtain ⟨p, -, h⟩ := Finset.exists_mem_eq_sup Finset.univ Finset.univ_nonempty f
  exact ⟨p, h.symm⟩

/-- A word that is not negative, read signed; -/
theorem word_front (w : BitVec 32) (h : w.toNat < 2 ^ 31) : w.toInt.toNat = w.toNat := by
  rw [BitVec.toInt_eq_toNat_of_lt (by omega)]; simp

/-- a small number's word, read signed. -/
theorem word_back (n : ℕ) (h : n < 2 ^ 31) : (BitVec.ofNat 32 n).toInt.toNat = n := by
  have e : (BitVec.ofNat 32 n).toNat = n := by rw [BitVec.toNat_ofNat]; omega
  rw [word_front _ (by omega), e]

/-- The loss of a row whose label names a column: the logarithm of the sum of exponentials, taken about the greatest logit,
    less the logit at the label. -/
theorem loss_at (A : FVec Ideal S512x1024 .bf16) (B : FVec Ideal S1024x32768 .bf16) (Y : IVec S512x1 32) (r : Fin 512)
    (h : (Y (ix2 r 0)).toNat < 32768) :
    loss A B Y (ix2 r 0) = (Finset.univ.fold max ⊥ fun p : Fin 32768 => logit A B r p)
      + Ideal.log (∑ p : Fin 32768, Ideal.exp (logit A B r p - Finset.univ.fold max ⊥ fun p : Fin 32768 => logit A B r p))
      - logit A B r ⟨(Y (ix2 r 0)).toNat, h⟩ := by
  have hr := r.isLt
  have e : rowMax (product A B) (ix1 r) = Finset.univ.fold max ⊥ fun p : Fin 32768 => logit A B r p := by
    rw [rowMax_at]; exact congrArg (Finset.univ.fold max ⊥) (funext fun p => product_at A B r p)
  have es : ∀ p, lowered (product A B) (rowMax (product A B)) (ix2 r p)
      = Ideal.exp (logit A B r p - Finset.univ.fold max ⊥ fun p : Fin 32768 => logit A B r p) := fun p => by
    rw [lowered_at, product_at, e]
  generalize (Finset.univ.fold max ⊥ fun p : Fin 32768 => logit A B r p) = g at e es ⊢
  unfold loss
  rw [less_at, raised_at, rowSum_at, pick_at _ _ r ⟨(Y (ix2 r 0)).toNat, h⟩ ?_ ?_, product_at, e, Finset.sum_congr rfl fun p _ => es p]
  · exact (congrArg (fun w : BitVec 32 => w.toInt.toNat) (picks_at0 Y r)).trans (word_back r.val (by omega))
  · exact (congrArg (fun w : BitVec 32 => w.toInt.toNat) (picks_at1 Y r h)).trans (word_front _ (by omega))

end Cert.Xent

end
-- ==== Proof.Labels.lean ====
/-
What the precondition on the labels says of each of them.
-/
module

public import proofs.«01_k».proof.Defs
public import proofs.«01_k».proof.Proof.Gen.Pre_labels_in_range_KernelIdeal
public import Idealize.ShloMosaic.Lib.ReduceAll
public import Idealize.ShloMosaic.Lib.Pointwise

@[expose] public section

noncomputable section

namespace Cert.Xent

open Idealize.ShloMosaic Cert.Pre_labels_in_range_KernelIdeal

/-- A word that is at least zero and below the number of columns, both signed, is below it unsigned. -/
theorem in_range {y : BitVec 32} (h : IntOp.andi (IntOp.cmpi .sge y 0#32) (IntOp.cmpi .slt y 32768#32) = 1#1) : y.toNat < 32768 := by
  obtain ⟨h1, h2⟩ := IntOp.andi_eq_one.1 h
  have e1 := IntOp.cmpi_sge.1 h1
  have e2 := IntOp.cmpi_slt.1 h2
  have e3 : (32768#32 : BitVec 32).toInt = 32768 := by decide
  have e4 : (0#32 : BitVec 32).toInt = 0 := by decide
  rw [e4] at e1
  rw [e3] at e2
  rw [BitVec.toInt_eq_toNat_cond] at e1 e2
  split at e1 <;> omega

/-- Labels of which the precondition holds name columns. -/
theorem label_lt (x : FVec Ideal S512x1024 .bf16) (w : FVec Ideal S1024x8192 .bf16) (Y : IVec S512x1 32)
    (h : fn (F := Ideal) x w Y = fun _ => 1#1) (r : Fin 512) : (Y (ix2 r 0)).toNat < 32768 := by
  have : Subsingleton S_.Idx := ⟨fun a b => funext fun i => i.elim0⟩
  have e := Host.reduce_andi_all _ _ _ _ (fun i => i.elim0) (congrFun h fun i => i.elim0) (ix2 r 0)
  exact in_range e

end Cert.Xent

end
-- ==== Proof.lean ====
/-
The claims about the sharded cross-entropy kernel: its frames at the machine's words and over the extended reals, the
frame of the reference, and that the two compute the same function over the extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labels_in_range_KernelIdeal
public import proofs.«01_k».proof.Proof.Gen.Pre_labels_in_range_ReferenceIdeal
public import proofs.«01_k».proof.Proof.Launch
public import proofs.«01_k».proof.Proof.Equation
public import proofs.«01_k».proof.Proof.Reference
public import proofs.«01_k».proof.Proof.Labels
public import Idealize.ShloMosaic.Adequacy
public import Idealize.ShloMosaic.Init

@[expose] public section

noncomputable section

namespace Cert.Proof

open Idealize.ShloMosaic Idealize.SL.Sem

/-- The kernel over any float values: it ends, with its arguments unchanged and every semaphore at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c (0 : Fin 4)).trans (Cert.Xent.finalA_in m ρ c 0 (by decide)),
      (h.1 c (1 : Fin 4)).trans (Cert.Xent.finalA_in m ρ c 1 (by decide)), (h.1 c (2 : Fin 4)).trans (Cert.Xent.finalA_in m ρ c 2 (by decide))⟩, h.2⟩)
    (Cert.Xent.run_main m ρ)

/-- The body tables of the two printed kernels agree, row by row; -/
theorem table_eq {F : FTy → Type} [FloatOps F] : @Cert.Kernel.defs₀ F _ _ = @Cert.KernelIdeal.defs₀ F _ _ := by
  unfold Cert.Kernel.defs₀ Cert.KernelIdeal.defs₀
  congr 1
  funext l a
  match l, a with
  | 0, a => obtain ⟨t, s⟩ := a; rfl
  | ⟨n + 1, h⟩, _ => exact absurd h (Nat.not_lt.2 (Nat.le_add_left _ _))

/-- so their launches have one meaning. -/
theorem defs_eq {F : FTy → Type} [FloatOps F] : @Cert.Kernel.defs F _ _ = @Cert.KernelIdeal.defs F _ _ := by
  unfold Cert.Kernel.defs Cert.KernelIdeal.defs
  rw [table_eq]; rfl

/-- At the machine's words the kernel has the text of the ideal one, so that run serves; -/
theorem frame_kernel : Cert.quiescent_Kernel := fun m ρ _ => by
  rw [defs_eq]
  exact frame_any (F := Bits) m ρ

/-- over the extended reals likewise; -/
theorem frame_ideal : Cert.quiescent_KernelIdeal := fun m ρ _ => frame_any (F := Ideal) m ρ

/-- and the reference over the extended reals, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What every device ends with is the loss of the whole arrays, if every label names a column. -/
theorem out_eq (m : (ℓ : Loc Cert.KernelIdeal.nD Cert.KernelIdeal.τ Cert.KernelIdeal.sig) → Buf (Elt Ideal) ℓ)
    (A : FVec Ideal Cert.ReferenceIdeal.S512x1024 .bf16) (B : FVec Ideal Cert.ReferenceIdeal.S1024x32768 .bf16) (Y : IVec Cert.ReferenceIdeal.S512x1 32)
    (h : Cert.Xent.Held m A B Y) (hY : ∀ r : Fin 512, (Y (ix2 r 0)).toNat < 32768) (c : Dev Cert.KernelIdeal.nD) :
    (Cert.Xent.outAt m c : FVec Ideal Cert.ReferenceIdeal.S512x1 .f32) = Cert.Xent.loss A B Y := by
  funext i
  obtain ⟨r, z, rfl⟩ : ∃ (r : Fin 512) (z : Fin 1), i = ix2 r z := ⟨i 0, i 1, by funext a; fin_cases a <;> rfl⟩
  obtain rfl : z = 0 := Subsingleton.elim _ _
  obtain ⟨h1, h2⟩ := Cert.Xent.fold_max fun p : Fin 32768 => Cert.Xent.logit A B r p
  exact (Cert.Xent.out_at h c r).trans ((Cert.Xent.merge_eq (Cert.Xent.logit A B r) _ h1 h2 ⟨_, hY r⟩).trans (Cert.Xent.loss_at A B Y r (hY r)).symm)

/-- Over the extended reals the kernel on the mesh computes the reference on the whole arrays: with every label naming a
    column, every device ends with the reference's result. -/
theorem same_loss : Cert.algebraic_KernelIdeal_ReferenceIdeal_pre_labels_in_range_KernelIdeal := fun m ρ m' ρ' hpre hin => by
  have hY := fun r => Cert.Xent.label_lt _ _ _ (hpre 0) r
  rw [(hin 0).2.2] at hY
  refine ⟨Cert.Xent.loss (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.Xent.run_main m ρ)
    exact ⟨(h.1 c (3 : Fin 4)).trans ((Cert.Xent.finalA_out m ρ c).trans (out_eq m _ _ _ hin hY c)),
      (h.1 c (0 : Fin 4)).trans (Cert.Xent.finalA_in m ρ c 0 (by decide)),
      (h.1 c (1 : Fin 4)).trans (Cert.Xent.finalA_in m ρ c 1 (by decide)), (h.1 c (2 : Fin 4)).trans (Cert.Xent.finalA_in m ρ c 2 (by decide))⟩
  · exact (θ_run Cert.ReferenceIdeal.defs _ _).mono (fun r h => h 0) (Cert.ReferenceIdeal.Value.run (F := Ideal) m' ρ')

/-- The claims of this certificate. -/
theorem claim : Cert.Claim := ⟨Cert.Kernel.Gen.facts, Cert.KernelIdeal.Gen.facts, Cert.ReferenceIdeal.Gen.facts,
  Cert.Pre_labels_in_range_KernelIdeal.Gen.facts, Cert.Pre_labels_in_range_ReferenceIdeal.Gen.facts,
  frame_kernel, frame_ideal, fun m ρ _ => frame_ideal m ρ trivial, frame_reference, fun m ρ _ => frame_reference m ρ trivial, trivial, same_loss⟩

end Cert.Proof

end
